-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_and_finite [hPre_drawn_and_finite : Cert.Pre_drawn_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_drawn_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_drawn_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_drawn_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_drawn_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_drawn_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_drawn_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_drawn_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_and_finite [hPre_drawn_and_finite : Cert.Pre_drawn_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_drawn_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_drawn_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_drawn_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_drawn_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_drawn_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_drawn_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_drawn_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_drawn_and_finite [hKernelIdeal : Cert.KernelIdeal.Facts] [hPre_drawn_and_finite : Cert.Pre_drawn_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_drawn_and_finite [hReferenceIdeal : Cert.ReferenceIdeal.Facts] [hPre_drawn_and_finite : Cert.Pre_drawn_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_l" .f32 0x3BA3D70A#32 ((1 / 200 : ℝ) : EReal)

def algebraic_KernelIdeal_ReferenceIdeal_pre_drawn_and_finite [hKernelIdeal : Cert.KernelIdeal.Facts] [hReferenceIdeal : Cert.ReferenceIdeal.Facts] [hPre_drawn_and_finite : Cert.Pre_drawn_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_drawn_and_finite : Cert.Pre_drawn_and_finite.Facts),
    quiescent_Kernel (hKernel := hKernel)
    ∧ quiescent_KernelIdeal (hKernelIdeal := hKernelIdeal)
    ∧ quiescent_KernelIdeal_pre_drawn_and_finite (hKernelIdeal := hKernelIdeal) (hPre_drawn_and_finite := hPre_drawn_and_finite)
    ∧ quiescent_ReferenceIdeal (hReferenceIdeal := hReferenceIdeal)
    ∧ quiescent_ReferenceIdeal_pre_drawn_and_finite (hReferenceIdeal := hReferenceIdeal) (hPre_drawn_and_finite := hPre_drawn_and_finite)
    ∧ preserves_Kernel_KernelIdeal
    ∧ algebraic_KernelIdeal_ReferenceIdeal_pre_drawn_and_finite (hKernelIdeal := hKernelIdeal) (hReferenceIdeal := hReferenceIdeal) (hPre_drawn_and_finite := hPre_drawn_and_finite)
-- ==== Pre_drawn_and_finite.lean ====
abbrev S3x4096 : Shape := ⟨2, ![3, 4096]⟩
abbrev S4x4096x200 : Shape := ⟨3, ![4, 4096, 200]⟩
abbrev S4x4096 : Shape := ⟨2, ![4, 4096]⟩
abbrev S139000x16 : Shape := ⟨2, ![139000, 16]⟩
abbrev S132000x16 : Shape := ⟨2, ![132000, 16]⟩
abbrev S150x16 : Shape := ⟨2, ![150, 16]⟩
abbrev S30x16 : Shape := ⟨2, ![30, 16]⟩
abbrev S41000x16 : Shape := ⟨2, ![41000, 16]⟩
abbrev S132000x1 : Shape := ⟨2, ![132000, 1]⟩
abbrev S41000x1 : Shape := ⟨2, ![41000, 1]⟩
abbrev S30x1 : Shape := ⟨2, ![30, 1]⟩
abbrev S4x16 : Shape := ⟨2, ![4, 16]⟩
abbrev S112x64 : Shape := ⟨2, ![112, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S30 : Shape := ⟨1, ![30]⟩
abbrev S30x1x1 : Shape := ⟨3, ![30, 1, 1]⟩
abbrev S1x30x1 : Shape := ⟨3, ![1, 30, 1]⟩
abbrev S30x30x1 : Shape := ⟨3, ![30, 30, 1]⟩
abbrev S30x1x16 : Shape := ⟨3, ![30, 1, 16]⟩
abbrev S1x30x16 : Shape := ⟨3, ![1, 30, 16]⟩
abbrev S30x30x16 : Shape := ⟨3, ![30, 30, 16]⟩

class Facts : Prop where
  reducesTo_S30x16_S30_d1 : S30x16.ReducesTo [1] S30
  h_S_ : 0 < S_.numel
  bcast_S_S3x4096 : S_.BroadcastsInDim S3x4096 (![] : Fin 0 → Fin S3x4096.rank)
  bcast_S_S4x4096x200 : S_.BroadcastsInDim S4x4096x200 (![] : Fin 0 → Fin S4x4096x200.rank)
  slices_S132000x16_S30x16_0_0 : S132000x16.Slices ![0, 0] S30x16
  bcast_S_S30x16 : S_.BroadcastsInDim S30x16 (![] : Fin 0 → Fin S30x16.rank)
  slices_S41000x16_S30x16_0_0 : S41000x16.Slices ![0, 0] S30x16
  slices_S41000x1_S30x1_0_0 : S41000x1.Slices ![0, 0] S30x1
  bcast_S_S30x1 : S_.BroadcastsInDim S30x1 (![] : Fin 0 → Fin S30x1.rank)
  bcast_S_S4x16 : S_.BroadcastsInDim S4x16 (![] : Fin 0 → Fin S4x16.rank)
  bcast_S30_S30x1x1_0 : S30.BroadcastsInDim S30x1x1 (![0] : Fin 1 → Fin S30x1x1.rank)
  bcast_S30_S1x30x1_1 : S30.BroadcastsInDim S1x30x1 (![1] : Fin 1 → Fin S1x30x1.rank)
  bcast_S30x1x1_S30x30x1_0_1_2 : S30x1x1.BroadcastsInDim S30x30x1 (![0, 1, 2] : Fin 3 → Fin S30x30x1.rank)
  bcast_S1x30x1_S30x30x1_0_1_2 : S1x30x1.BroadcastsInDim S30x30x1 (![0, 1, 2] : Fin 3 → Fin S30x30x1.rank)
  bcast_S30x16_S30x1x16_0_2 : S30x16.BroadcastsInDim S30x1x16 (![0, 2] : Fin 2 → Fin S30x1x16.rank)
  bcast_S30x16_S1x30x16_1_2 : S30x16.BroadcastsInDim S1x30x16 (![1, 2] : Fin 2 → Fin S1x30x16.rank)
  bcast_S30x1x16_S30x30x16_0_1_2 : S30x1x16.BroadcastsInDim S30x30x16 (![0, 1, 2] : Fin 3 → Fin S30x30x16.rank)
  bcast_S1x30x16_S30x30x16_0_1_2 : S1x30x16.BroadcastsInDim S30x30x16 (![0, 1, 2] : Fin 3 → Fin S30x30x16.rank)
  bcast_S30x30x1_S30x30x16_0_1_2 : S30x30x1.BroadcastsInDim S30x30x16 (![0, 1, 2] : Fin 3 → Fin S30x30x16.rank)

variable [Facts]

def fn_part2 {F : FTy → Type} [FloatOps F] (main_v6 : IVec S3x4096 1) (main_v11 : IVec S4x4096x200 1) (main_v15 : IVec S30x16 1) (main_v18 : IVec S30x16 1) (main_v22 : IVec S30x16 1) (main_v26 : IVec S30x1 1) (main_v29 : IVec S4x16 1) (main_v34 : IVec S30x30x1 1) (main_v36 : FVec F S1x30x16 .f32) (main_v37 : FVec F S30x30x16 .f32) : IVec S3x4096 1 × IVec S4x4096x200 1 × IVec S30x16 1 × IVec S30x16 1 × IVec S30x16 1 × IVec S30x1 1 × IVec S4x16 1 × IVec S30x30x16 1 :=
  let main_v38 : FVec F S30x30x16 .f32 := broadcastInDim S30x30x16 ![0, 1, 2] bcast_S1x30x16_S30x30x16_0_1_2 main_v36
  let main_v39 : IVec S30x30x16 1 := cmpf .oeq main_v37 main_v38
  let main_v40 : IVec S30x30x16 1 := broadcastInDim S30x30x16 ![0, 1, 2] bcast_S30x30x1_S30x30x16_0_1_2 main_v34
  let main_v41 : IVec S30x30x16 1 := ori main_v40 main_v39
  (main_v6, main_v11, main_v15, main_v18, main_v22, main_v26, main_v29, main_v41)

def fn_part1 {F : FTy → Type} [FloatOps F] (main_arg6 : FVec F S30x16 .f32) (main_arg7 : FVec F S41000x16 .f32) (main_arg9 : FVec F S41000x1 .f32) (main_arg11 : FVec F S4x16 .f32) (main_v1 : FVec F S30 .f32) (main_v6 : IVec S3x4096 1) (main_v11 : IVec S4x4096x200 1) (main_v15 : IVec S30x16 1) (main_v16 : FVec F S30x16 .f32) (main_cst_4 : FVec F S_ .f32) : IVec S3x4096 1 × IVec S4x4096x200 1 × IVec S30x16 1 × IVec S30x16 1 × IVec S30x16 1 × IVec S30x1 1 × IVec S4x16 1 × IVec S30x30x16 1 :=
  let main_v17 : FVec F S30x16 .f32 := broadcastInDim S30x16 ![] bcast_S_S30x16 main_cst_4
  let main_v18 : IVec S30x16 1 := cmpf .olt main_v16 main_v17
  let main_v19 : FVec F S30x16 .f32 := (extractStridedSlice S30x16 ![0, 0] · slices_S41000x16_S30x16_0_0) main_arg7
  let main_v20 : FVec F S30x16 .f32 := Host.absf main_v19
  let main_cst_5 : FVec F S_ .f32 := constant S_ .f32 0x7F800000#32
  let main_v21 : FVec F S30x16 .f32 := broadcastInDim S30x16 ![] bcast_S_S30x16 main_cst_5
  let main_v22 : IVec S30x16 1 := cmpf .olt main_v20 main_v21
  let main_v23 : FVec F S30x1 .f32 := (extractStridedSlice S30x1 ![0, 0] · slices_S41000x1_S30x1_0_0) main_arg9
  let main_v24 : FVec F S30x1 .f32 := Host.absf main_v23
  let main_cst_6 : FVec F S_ .f32 := constant S_ .f32 0x7F800000#32
  let main_v25 : FVec F S30x1 .f32 := broadcastInDim S30x1 ![] bcast_S_S30x1 main_cst_6
  let main_v26 : IVec S30x1 1 := cmpf .olt main_v24 main_v25
  let main_v27 : FVec F S4x16 .f32 := Host.absf main_arg11
  let main_cst_7 : FVec F S_ .f32 := constant S_ .f32 0x7F800000#32
  let main_v28 : FVec F S4x16 .f32 := broadcastInDim S4x16 ![] bcast_S_S4x16 main_cst_7
  let main_v29 : IVec S4x16 1 := cmpf .olt main_v27 main_v28
  let main_v30 : FVec F S30x1x1 .f32 := broadcastInDim S30x1x1 ![0] bcast_S30_S30x1x1_0 main_v1
  let main_v31 : FVec F S1x30x1 .f32 := broadcastInDim S1x30x1 ![1] bcast_S30_S1x30x1_1 main_v1
  let main_v32 : FVec F S30x30x1 .f32 := broadcastInDim S30x30x1 ![0, 1, 2] bcast_S30x1x1_S30x30x1_0_1_2 main_v30
  let main_v33 : FVec F S30x30x1 .f32 := broadcastInDim S30x30x1 ![0, 1, 2] bcast_S1x30x1_S30x30x1_0_1_2 main_v31
  let main_v34 : IVec S30x30x1 1 := cmpf .une main_v32 main_v33
  let main_v35 : FVec F S30x1x16 .f32 := broadcastInDim S30x1x16 ![0, 2] bcast_S30x16_S30x1x16_0_2 main_arg6
  let main_v36 : FVec F S1x30x16 .f32 := broadcastInDim S1x30x16 ![1, 2] bcast_S30x16_S1x30x16_1_2 main_arg6
  let main_v37 : FVec F S30x30x16 .f32 := broadcastInDim S30x30x16 ![0, 1, 2] bcast_S30x1x16_S30x30x16_0_1_2 main_v35
  fn_part2 (F := F) main_v6 main_v11 main_v15 main_v18 main_v22 main_v26 main_v29 main_v34 main_v36 main_v37

def fn {F : FTy → Type} [FloatOps F] (main_arg0 : IVec S3x4096 32) (main_arg1 : IVec S4x4096x200 32) (main_arg2 : IVec S4x4096 32) (main_arg3 : FVec F S139000x16 .f32) (main_arg4 : FVec F S132000x16 .f32) (main_arg5 : FVec F S150x16 .f32) (main_arg6 : FVec F S30x16 .f32) (main_arg7 : FVec F S41000x16 .f32) (main_arg8 : FVec F S132000x1 .f32) (main_arg9 : FVec F S41000x1 .f32) (main_arg10 : FVec F S30x1 .f32) (main_arg11 : FVec F S4x16 .f32) (main_arg12 : FVec F S4x16 .f32) (main_arg13 : FVec F S112x64 .f32) (main_arg14 : FVec F S64 .f32) (main_arg15 : FVec F S64x32 .f32) (main_arg16 : FVec F S32 .f32) (main_arg17 : FVec F S32x1 .f32) (main_arg18 : FVec F S1 .f32) : IVec S3x4096 1 × IVec S4x4096x200 1 × IVec S30x16 1 × IVec S30x16 1 × IVec S30x16 1 × IVec S30x1 1 × IVec S4x16 1 × IVec S30x30x16 1 :=
  let main_v0 : FVec F S30x16 .f32 := mulf main_arg6 main_arg6
  let main_cst : FVec F S_ .f32 := constant S_ .f32 0x00000000#32
  let main_v1 : FVec F S30 .f32 := (fun x v => Host.reduceAdd x v reducesTo_S30x16_S30_d1 h_S_) main_v0 main_cst
  let main_c : IVec S_ 32 := constantI S_ 32 0#32
  let main_v2 : IVec S3x4096 32 := broadcastInDim S3x4096 ![] bcast_S_S3x4096 main_c
  let main_v3 : IVec S3x4096 1 := cmpi .sge main_arg0 main_v2
  let main_c_0 : IVec S_ 32 := constantI S_ 32 30#32
  let main_v4 : IVec S3x4096 32 := broadcastInDim S3x4096 ![] bcast_S_S3x4096 main_c_0
  let main_v5 : IVec S3x4096 1 := cmpi .slt main_arg0 main_v4
  let main_v6 : IVec S3x4096 1 := andi main_v3 main_v5
  let main_c_1 : IVec S_ 32 := constantI S_ 32 0#32
  let main_v7 : IVec S4x4096x200 32 := broadcastInDim S4x4096x200 ![] bcast_S_S4x4096x200 main_c_1
  let main_v8 : IVec S4x4096x200 1 := cmpi .sge main_arg1 main_v7
  let main_c_2 : IVec S_ 32 := constantI S_ 32 30#32
  let main_v9 : IVec S4x4096x200 32 := broadcastInDim S4x4096x200 ![] bcast_S_S4x4096x200 main_c_2
  let main_v10 : IVec S4x4096x200 1 := cmpi .slt main_arg1 main_v9
  let main_v11 : IVec S4x4096x200 1 := andi main_v8 main_v10
  let main_v12 : FVec F S30x16 .f32 := (extractStridedSlice S30x16 ![0, 0] · slices_S132000x16_S30x16_0_0) main_arg4
  let main_v13 : FVec F S30x16 .f32 := Host.absf main_v12
  let main_cst_3 : FVec F S_ .f32 := constant S_ .f32 0x7F800000#32
  let main_v14 : FVec F S30x16 .f32 := broadcastInDim S30x16 ![] bcast_S_S30x16 main_cst_3
  let main_v15 : IVec S30x16 1 := cmpf .olt main_v13 main_v14
  let main_v16 : FVec F S30x16 .f32 := Host.absf main_arg6
  let main_cst_4 : FVec F S_ .f32 := constant S_ .f32 0x7F800000#32
  fn_part1 (F := F) main_arg6 main_arg7 main_arg9 main_arg11 main_v1 main_v6 main_v11 main_v15 main_v16 main_cst_4
-- ==== Kernel.lean ====
abbrev S3x4096 : Shape := ⟨2, ![3, 4096]⟩
abbrev S4x4096x200 : Shape := ⟨3, ![4, 4096, 200]⟩
abbrev S4x4096 : Shape := ⟨2, ![4, 4096]⟩
abbrev S139000x16 : Shape := ⟨2, ![139000, 16]⟩
abbrev S132000x16 : Shape := ⟨2, ![132000, 16]⟩
abbrev S150x16 : Shape := ⟨2, ![150, 16]⟩
abbrev S30x16 : Shape := ⟨2, ![30, 16]⟩
abbrev S41000x16 : Shape := ⟨2, ![41000, 16]⟩
abbrev S132000x1 : Shape := ⟨2, ![132000, 1]⟩
abbrev S41000x1 : Shape := ⟨2, ![41000, 1]⟩
abbrev S30x1 : Shape := ⟨2, ![30, 1]⟩
abbrev S4x16 : Shape := ⟨2, ![4, 16]⟩
abbrev S112x64 : Shape := ⟨2, ![112, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S32x16 : Shape := ⟨2, ![32, 16]⟩
abbrev S16x32 : Shape := ⟨2, ![16, 32]⟩
abbrev S1x32 : Shape := ⟨2, ![1, 32]⟩
abbrev S4x200x4096 : Shape := ⟨3, ![4, 200, 4096]⟩
abbrev S64x112 : Shape := ⟨2, ![64, 112]⟩
abbrev S64x1 : Shape := ⟨2, ![64, 1]⟩
abbrev S32x64 : Shape := ⟨2, ![32, 64]⟩
abbrev S1x1 : Shape := ⟨2, ![1, 1]⟩
abbrev S1x4096 : Shape := ⟨2, ![1, 4096]⟩
abbrev S3x512 : Shape := ⟨2, ![3, 512]⟩
abbrev S4x512 : Shape := ⟨2, ![4, 512]⟩
abbrev S4x200x512 : Shape := ⟨3, ![4, 200, 512]⟩
abbrev S112x4096 : Shape := ⟨2, ![112, 4096]⟩
abbrev S16x8 : Shape := ⟨2, ![16, 8]⟩
abbrev S200x1 : Shape := ⟨2, ![200, 1]⟩
abbrev S1x512 : Shape := ⟨2, ![1, 512]⟩
abbrev S512 : Shape := ⟨1, ![512]⟩
abbrev S32x512 : Shape := ⟨2, ![32, 512]⟩
abbrev S16x512 : Shape := ⟨2, ![16, 512]⟩
abbrev S200x512 : Shape := ⟨2, ![200, 512]⟩
abbrev S1x200x512 : Shape := ⟨3, ![1, 200, 512]⟩
abbrev S112x512 : Shape := ⟨2, ![112, 512]⟩
abbrev S16 : Shape := ⟨1, ![16]⟩
abbrev S16x1 : Shape := ⟨2, ![16, 1]⟩
abbrev S48x4096 : Shape := ⟨2, ![48, 4096]⟩
abbrev S1x16 : Shape := ⟨2, ![1, 16]⟩
abbrev S16x4096 : Shape := ⟨2, ![16, 4096]⟩
abbrev S64x4096 : Shape := ⟨2, ![64, 4096]⟩
abbrev S32x4096 : Shape := ⟨2, ![32, 4096]⟩
abbrev S4096 : Shape := ⟨1, ![4096]⟩

abbrev nBuf : Space → Nat
  | .hbm => 64
  | .vmem => 23
  | .smem => 0
  | _ => 0

abbrev bufTy : (tb : Table) → Fin (tcTables nBuf tb) → BufTy
  | .hbm, ⟨0, _⟩ => ⟨S3x4096, .i32⟩
  | .hbm, ⟨1, _⟩ => ⟨S4x4096x200, .i32⟩
  | .hbm, ⟨2, _⟩ => ⟨S4x4096, .i32⟩
  | .hbm, ⟨3, _⟩ => ⟨S139000x16, .f32⟩
  | .hbm, ⟨4, _⟩ => ⟨S132000x16, .f32⟩
  | .hbm, ⟨5, _⟩ => ⟨S150x16, .f32⟩
  | .hbm, ⟨6, _⟩ => ⟨S30x16, .f32⟩
  | .hbm, ⟨7, _⟩ => ⟨S41000x16, .f32⟩
  | .hbm, ⟨8, _⟩ => ⟨S132000x1, .f32⟩
  | .hbm, ⟨9, _⟩ => ⟨S41000x1, .f32⟩
  | .hbm, ⟨10, _⟩ => ⟨S30x1, .f32⟩
  | .hbm, ⟨11, _⟩ => ⟨S4x16, .f32⟩
  | .hbm, ⟨12, _⟩ => ⟨S4x16, .f32⟩
  | .hbm, ⟨13, _⟩ => ⟨S112x64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32x16, .f32⟩
  | .hbm, ⟨24, _⟩ => ⟨S32x1, .i1⟩
  | .hbm, ⟨25, _⟩ => ⟨S32x1, .f32⟩
  | .hbm, ⟨26, _⟩ => ⟨S32x16, .f32⟩
  | .hbm, ⟨27, _⟩ => ⟨S32x16, .f32⟩
  | .hbm, ⟨28, _⟩ => ⟨S16x32, .f32⟩
  | .hbm, ⟨29, _⟩ => ⟨S32x16, .f32⟩
  | .hbm, ⟨30, _⟩ => ⟨S32x1, .i1⟩
  | .hbm, ⟨31, _⟩ => ⟨S32x1, .f32⟩
  | .hbm, ⟨32, _⟩ => ⟨S32x16, .f32⟩
  | .hbm, ⟨33, _⟩ => ⟨S32x16, .f32⟩
  | .hbm, ⟨34, _⟩ => ⟨S16x32, .f32⟩
  | .hbm, ⟨35, _⟩ => ⟨S32x16, .f32⟩
  | .hbm, ⟨36, _⟩ => ⟨S_, .i32⟩
  | .hbm, ⟨37, _⟩ => ⟨S_, .f32⟩
  | .hbm, ⟨38, _⟩ => ⟨S32x16, .f32⟩
  | .hbm, ⟨39, _⟩ => ⟨S16x32, .f32⟩
  | .hbm, ⟨40, _⟩ => ⟨S_, .i32⟩
  | .hbm, ⟨41, _⟩ => ⟨S_, .f32⟩
  | .hbm, ⟨42, _⟩ => ⟨S32x16, .f32⟩
  | .hbm, ⟨43, _⟩ => ⟨S16x32, .f32⟩
  | .hbm, ⟨44, _⟩ => ⟨S32x16, .f32⟩
  | .hbm, ⟨45, _⟩ => ⟨S32x1, .i1⟩
  | .hbm, ⟨46, _⟩ => ⟨S32x1, .f32⟩
  | .hbm, ⟨47, _⟩ => ⟨S32x16, .f32⟩
  | .hbm, ⟨48, _⟩ => ⟨S32x16, .f32⟩
  | .hbm, ⟨49, _⟩ => ⟨S16x32, .f32⟩
  | .hbm, ⟨50, _⟩ => ⟨S32x1, .f32⟩
  | .hbm, ⟨51, _⟩ => ⟨S32x1, .i1⟩
  | .hbm, ⟨52, _⟩ => ⟨S32x1, .f32⟩
  | .hbm, ⟨53, _⟩ => ⟨S32x1, .f32⟩
  | .hbm, ⟨54, _⟩ => ⟨S1x32, .f32⟩
  | .hbm, ⟨55, _⟩ => ⟨S4x200x4096, .i32⟩
  | .hbm, ⟨56, _⟩ => ⟨S64x112, .f32⟩
  | .hbm, ⟨57, _⟩ => ⟨S64x1, .f32⟩
  | .hbm, ⟨58, _⟩ => ⟨S32x64, .f32⟩
  | .hbm, ⟨59, _⟩ => ⟨S32x1, .f32⟩
  | .hbm, ⟨60, _⟩ => ⟨S1x32, .f32⟩
  | .hbm, ⟨61, _⟩ => ⟨S1x1, .f32⟩
  | .hbm, ⟨62, _⟩ => ⟨S1x4096, .f32⟩
  | .hbm, ⟨63, _⟩ => ⟨S4096, .f32⟩
  | .local _ .vmem, ⟨0, _⟩ => ⟨S3x512, .i32⟩
  | .local _ .vmem, ⟨1, _⟩ => ⟨S3x512, .i32⟩
  | .local _ .vmem, ⟨2, _⟩ => ⟨S4x512, .i32⟩
  | .local _ .vmem, ⟨3, _⟩ => ⟨S4x512, .i32⟩
  | .local _ .vmem, ⟨4, _⟩ => ⟨S4x200x512, .i32⟩
  | .local _ .vmem, ⟨5, _⟩ => ⟨S4x200x512, .i32⟩
  | .local _ .vmem, ⟨6, _⟩ => ⟨S16x32, .f32⟩
  | .local _ .vmem, ⟨7, _⟩ => ⟨S16x32, .f32⟩
  | .local _ .vmem, ⟨8, _⟩ => ⟨S16x32, .f32⟩
  | .local _ .vmem, ⟨9, _⟩ => ⟨S16x32, .f32⟩
  | .local _ .vmem, ⟨10, _⟩ => ⟨S16x32, .f32⟩
  | .local _ .vmem, ⟨11, _⟩ => ⟨S1x32, .f32⟩
  | .local _ .vmem, ⟨12, _⟩ => ⟨S4x16, .f32⟩
  | .local _ .vmem, ⟨13, _⟩ => ⟨S4x16, .f32⟩
  | .local _ .vmem, ⟨14, _⟩ => ⟨S64x112, .f32⟩
  | .local _ .vmem, ⟨15, _⟩ => ⟨S64x1, .f32⟩
  | .local _ .vmem, ⟨16, _⟩ => ⟨S32x64, .f32⟩
  | .local _ .vmem, ⟨17, _⟩ => ⟨S32x1, .f32⟩
  | .local _ .vmem, ⟨18, _⟩ => ⟨S1x32, .f32⟩
  | .local _ .vmem, ⟨19, _⟩ => ⟨S1x1, .f32⟩
  | .local _ .vmem, ⟨20, _⟩ => ⟨S1x4096, .f32⟩
  | .local _ .vmem, ⟨21, _⟩ => ⟨S112x4096, .f32⟩
  | .local _ .vmem, ⟨22, _⟩ => ⟨S16x8, .f32⟩
  | _, _ => ⟨S3x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_0 : Ref sig .tc := ⟨.hbm, 36, rfl⟩
abbrev main_call0_v0 : Ref sig .tc := ⟨.hbm, 37, rfl⟩
abbrev main_v16 : Ref sig .tc := ⟨.hbm, 38, rfl⟩
abbrev main_v17 : Ref sig .tc := ⟨.hbm, 39, rfl⟩
abbrev main_c_1 : Ref sig .tc := ⟨.hbm, 40, rfl⟩
abbrev main_call1_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_388 : Index := 0#32
  let arg0 : BitVec 32 := BitVec.ofNat 32 (i 0).val
  let c512_i32 : BitVec 32 := 512#32
  let v879 : BitVec 32 := Scalar.muli arg0 c512_i32
  let v880 : Index := Scalar.indexCast v879
  ![0, v880.toNat]
def k0_cond2 (i : grid0.Coords) : BitVec 1 :=
  let arg0 : BitVec 32 := BitVec.ofNat 32 (i 0).val
  let c7_i32_403 : BitVec 32 := 7#32
  let v913 : BitVec 1 := Scalar.cmpi .eq arg0 c7_i32_403
  let v914 : BitVec 32 := Scalar.extui v913
  let c0_i32_404 : BitVec 32 := 0#32
  let v915 : BitVec 1 := Scalar.cmpi .ne v914 c0_i32_404
  v915

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x200x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x112 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "inv_l" => some ((1 / 200 : ℝ) : EReal)
  | _ => none
-- ==== ReferenceIdeal.lean ====
abbrev S3x4096 : Shape := ⟨2, ![3, 4096]⟩
abbrev S4x4096x200 : Shape := ⟨3, ![4, 4096, 200]⟩
abbrev S4x4096 : Shape := ⟨2, ![4, 4096]⟩
abbrev S139000x16 : Shape := ⟨2, ![139000, 16]⟩
abbrev S132000x16 : Shape := ⟨2, ![132000, 16]⟩
abbrev S150x16 : Shape := ⟨2, ![150, 16]⟩
abbrev S30x16 : Shape := ⟨2, ![30, 16]⟩
abbrev S41000x16 : Shape := ⟨2, ![41000, 16]⟩
abbrev S132000x1 : Shape := ⟨2, ![132000, 1]⟩
abbrev S41000x1 : Shape := ⟨2, ![41000, 1]⟩
abbrev S30x1 : Shape := ⟨2, ![30, 1]⟩
abbrev S4x16 : Shape := ⟨2, ![4, 16]⟩
abbrev S112x64 : Shape := ⟨2, ![112, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x4096 : Shape := ⟨2, ![1, 4096]⟩
abbrev S4096 : Shape := ⟨1, ![4096]⟩
abbrev S_ : Shape := ⟨0, ![]⟩
abbrev S4096x1 : Shape := ⟨2, ![4096, 1]⟩
abbrev S1x1 : Shape := ⟨2, ![1, 1]⟩
abbrev S4096x16 : Shape := ⟨2, ![4096, 16]⟩
abbrev S4096x48 : Shape := ⟨2, ![4096, 48]⟩
abbrev S200 : Shape := ⟨1, ![200]⟩
abbrev S1x200 : Shape := ⟨2, ![1, 200]⟩
abbrev S4096x200 : Shape := ⟨2, ![4096, 200]⟩
abbrev S1x4096x200 : Shape := ⟨3, ![1, 4096, 200]⟩
abbrev S4096x200x1 : Shape := ⟨3, ![4096, 200, 1]⟩
abbrev S1x1x1 : Shape := ⟨3, ![1, 1, 1]⟩
abbrev S4096x200x16 : Shape := ⟨3, ![4096, 200, 16]⟩
abbrev S4096x1x1 : Shape := ⟨3, ![4096, 1, 1]⟩
abbrev S4096x1x16 : Shape := ⟨3, ![4096, 1, 16]⟩
abbrev S16 : Shape := ⟨1, ![16]⟩
abbrev S1x16 : Shape := ⟨2, ![1, 16]⟩
abbrev S4096x112 : Shape := ⟨2, ![4096, 112]⟩
abbrev S4096x64 : Shape := ⟨2, ![4096, 64]⟩
abbrev S1x64 : Shape := ⟨2, ![1, 64]⟩
abbrev S4096x32 : Shape := ⟨2, ![4096, 32]⟩
abbrev S1x32 : Shape := ⟨2, ![1, 32]⟩

abbrev nBuf : Space → Nat
  | .hbm => 509
  | .vmem => 0
  | .smem => 0
  | _ => 0

abbrev hbmTy0_0 (i : Nat) : BufTy := match i % 128 with
  | 0 => ⟨S3x4096, .i32⟩
  | 1 => ⟨S4x4096x200, .i32⟩
  | 2 => ⟨S4x4096, .i32⟩
  | 3 => ⟨S139000x16, .f32⟩
  | 4 => ⟨S132000x16, .f32⟩
  | 5 => ⟨S150x16, .f32⟩
  | 6 => ⟨S30x16, .f32⟩
  | 7 => ⟨S41000x16, .f32⟩
  | 8 => ⟨S132000x1, .f32⟩
  | 9 => ⟨S41000x1, .f32⟩
  | 10 => ⟨S30x1, .f32⟩
  | 11 => ⟨S4x16, .f32⟩
  | 12 => ⟨S4x16, .f32⟩
  | 13 => ⟨S112x64, .f32⟩
  | 14 => ⟨S64, .f32⟩
  | 15 => ⟨S64x32, .f32⟩
  | 16 => ⟨S32, .f32⟩
  | 17 => ⟨S32x1, .f32⟩
  | 18 => ⟨S1, .f32⟩
  | 19 => ⟨S1x4096, .i32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S1, .i32⟩
  | 30 => ⟨S_, .i32⟩
  | 31 => ⟨S4096x1, .i32⟩
  | 32 => ⟨S4096x1, .i1⟩
  | 33 => ⟨S1x1, .i32⟩
  | 34 => ⟨S4096x1, .i32⟩
  | 35 => ⟨S4096x1, .i1⟩
  | 36 => ⟨S4096x1, .i1⟩
  | 37 => ⟨S_, .i1⟩
  | 38 => ⟨S4096, .i1⟩
  | 39 => ⟨S4096x16, .f32⟩
  | 40 => ⟨S4096x16, .i1⟩
  | 41 => ⟨S_, .f32⟩
  | 42 => ⟨S4096x16, .f32⟩
  | 43 => ⟨S4096x16, .f32⟩
  | 44 => ⟨S1x4096, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S1, .i32⟩
  | 55 => ⟨S_, .i32⟩
  | 56 => ⟨S4096x1, .i32⟩
  | 57 => ⟨S4096x1, .i1⟩
  | 58 => ⟨S1x1, .i32⟩
  | 59 => ⟨S4096x1, .i32⟩
  | 60 => ⟨S4096x1, .i1⟩
  | 61 => ⟨S4096x1, .i1⟩
  | 62 => ⟨S_, .i1⟩
  | 63 => ⟨S4096, .i1⟩
  | 64 => ⟨S4096x16, .f32⟩
  | 65 => ⟨S4096x16, .i1⟩
  | 66 => ⟨S_, .f32⟩
  | 67 => ⟨S4096x16, .f32⟩
  | 68 => ⟨S4096x16, .f32⟩
  | 69 => ⟨S1x4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S1, .i32⟩
  | 80 => ⟨S_, .i32⟩
  | 81 => ⟨S4096x1, .i32⟩
  | 82 => ⟨S4096x1, .i1⟩
  | 83 => ⟨S1x1, .i32⟩
  | 84 => ⟨S4096x1, .i32⟩
  | 85 => ⟨S4096x1, .i1⟩
  | 86 => ⟨S4096x1, .i1⟩
  | 87 => ⟨S_, .i1⟩
  | 88 => ⟨S4096, .i1⟩
  | 89 => ⟨S4096x16, .f32⟩
  | 90 => ⟨S4096x16, .i1⟩
  | 91 => ⟨S_, .f32⟩
  | 92 => ⟨S4096x16, .f32⟩
  | 93 => ⟨S4096x16, .f32⟩
  | 94 => ⟨S4096x48, .f32⟩
  | 95 => ⟨S200, .i32⟩
  | 96 => ⟨S1x4096, .i32⟩
  | 97 => ⟨S4096, .i32⟩
  | 98 => ⟨S4096x1, .i32⟩
  | 99 => ⟨S1x200, .i32⟩
  | 100 => ⟨S4096x200, .i32⟩
  | 101 => ⟨S4096x200, .i32⟩
  | 102 => ⟨S4096x200, .i1⟩
  | 103 => ⟨S1x4096x200, .i32⟩
  | 104 => ⟨S4096x200, .i32⟩
  | 105 => ⟨S_, .i32⟩
  | 106 => ⟨S4096x200, .i32⟩
  | 107 => ⟨S4096x200, .i1⟩
  | 108 => ⟨S_, .i32⟩
  | 109 => ⟨S4096x200, .i32⟩
  | 110 => ⟨S4096x200, .i32⟩
  | 111 => ⟨S4096x200, .i32⟩
  | 112 => ⟨S4096x200x1, .i32⟩
  | 113 => ⟨S1, .i32⟩
  | 114 => ⟨S_, .i32⟩
  | 115 => ⟨S4096x200x1, .i32⟩
  | 116 => ⟨S4096x200x1, .i1⟩
  | 117 => ⟨S1x1x1, .i32⟩
  | 118 => ⟨S4096x200x1, .i32⟩
  | 119 => ⟨S4096x200x1, .i1⟩
  | 120 => ⟨S4096x200x1, .i1⟩
  | 121 => ⟨S_, .i1⟩
  | 122 => ⟨S4096x200, .i1⟩
  | 123 => ⟨S4096x200x16, .f32⟩
  | 124 => ⟨S4096x200x16, .i1⟩
  | 125 => ⟨S_, .f32⟩
  | 126 => ⟨S4096x200x16, .f32⟩
  | 127 => ⟨S4096x200x16, .f32⟩
  | _ => ⟨S3x4096, .i32⟩

abbrev hbmTy0_1 (i : Nat) : BufTy := match i % 128 with
  | 0 => ⟨S4096x200x1, .i1⟩
  | 1 => ⟨S_, .f32⟩
  | 2 => ⟨S4096x200x16, .f32⟩
  | 3 => ⟨S4096x200x16, .i1⟩
  | 4 => ⟨S4096x200x16, .f32⟩
  | 5 => ⟨S_, .f32⟩
  | 6 => ⟨S4096x16, .f32⟩
  | 7 => ⟨S1x4096, .i32⟩
  | 8 => ⟨S4096, .i32⟩
  | 9 => ⟨S4096x1, .i32⟩
  | 10 => ⟨S1x200, .i32⟩
  | 11 => ⟨S4096x200, .i32⟩
  | 12 => ⟨S4096x200, .i32⟩
  | 13 => ⟨S4096x200, .i1⟩
  | 14 => ⟨S1x4096x200, .i32⟩
  | 15 => ⟨S4096x200, .i32⟩
  | 16 => ⟨S_, .i32⟩
  | 17 => ⟨S4096x200, .i32⟩
  | 18 => ⟨S4096x200, .i1⟩
  | 19 => ⟨S_, .i32⟩
  | 20 => ⟨S4096x200, .i32⟩
  | 21 => ⟨S4096x200, .i32⟩
  | 22 => ⟨S4096x200, .i32⟩
  | 23 => ⟨S4096x200x1, .i32⟩
  | 24 => ⟨S1, .i32⟩
  | 25 => ⟨S_, .i32⟩
  | 26 => ⟨S4096x200x1, .i32⟩
  | 27 => ⟨S4096x200x1, .i1⟩
  | 28 => ⟨S1x1x1, .i32⟩
  | 29 => ⟨S4096x200x1, .i32⟩
  | 30 => ⟨S4096x200x1, .i1⟩
  | 31 => ⟨S4096x200x1, .i1⟩
  | 32 => ⟨S_, .i1⟩
  | 33 => ⟨S4096x200, .i1⟩
  | 34 => ⟨S4096x200x16, .f32⟩
  | 35 => ⟨S4096x200x16, .i1⟩
  | 36 => ⟨S_, .f32⟩
  | 37 => ⟨S4096x200x16, .f32⟩
  | 38 => ⟨S4096x200x16, .f32⟩
  | 39 => ⟨S4096x200x1, .i1⟩
  | 40 => ⟨S_, .f32⟩
  | 41 => ⟨S4096x200x16, .f32⟩
  | 42 => ⟨S4096x200x16, .i1⟩
  | 43 => ⟨S4096x200x16, .f32⟩
  | 44 => ⟨S_, .f32⟩
  | 45 => ⟨S4096x16, .f32⟩
  | 46 => ⟨S_, .f32⟩
  | 47 => ⟨S4096x16, .f32⟩
  | 48 => ⟨S4096x16, .f32⟩
  | 49 => ⟨S1x4096, .i32⟩
  | 50 => ⟨S4096, .i32⟩
  | 51 => ⟨S4096x1, .i32⟩
  | 52 => ⟨S1x200, .i32⟩
  | 53 => ⟨S4096x200, .i32⟩
  | 54 => ⟨S4096x200, .i32⟩
  | 55 => ⟨S4096x200, .i1⟩
  | 56 => ⟨S1x4096x200, .i32⟩
  | 57 => ⟨S4096x200, .i32⟩
  | 58 => ⟨S_, .i32⟩
  | 59 => ⟨S4096x200, .i32⟩
  | 60 => ⟨S4096x200, .i1⟩
  | 61 => ⟨S_, .i32⟩
  | 62 => ⟨S4096x200, .i32⟩
  | 63 => ⟨S4096x200, .i32⟩
  | 64 => ⟨S4096x200, .i32⟩
  | 65 => ⟨S4096x200x1, .i32⟩
  | 66 => ⟨S1, .i32⟩
  | 67 => ⟨S_, .i32⟩
  | 68 => ⟨S4096x200x1, .i32⟩
  | 69 => ⟨S4096x200x1, .i1⟩
  | 70 => ⟨S1x1x1, .i32⟩
  | 71 => ⟨S4096x200x1, .i32⟩
  | 72 => ⟨S4096x200x1, .i1⟩
  | 73 => ⟨S4096x200x1, .i1⟩
  | 74 => ⟨S_, .i1⟩
  | 75 => ⟨S4096x200, .i1⟩
  | 76 => ⟨S4096x200x16, .f32⟩
  | 77 => ⟨S4096x200x16, .i1⟩
  | 78 => ⟨S_, .f32⟩
  | 79 => ⟨S4096x200x16, .f32⟩
  | 80 => ⟨S4096x200x16, .f32⟩
  | 81 => ⟨S4096x200x1, .i1⟩
  | 82 => ⟨S_, .f32⟩
  | 83 => ⟨S4096x200x16, .f32⟩
  | 84 => ⟨S4096x200x16, .i1⟩
  | 85 => ⟨S4096x200x16, .f32⟩
  | 86 => ⟨S4096x200x16, .f32⟩
  | 87 => ⟨S_, .f32⟩
  | 88 => ⟨S4096x200, .f32⟩
  | 89 => ⟨S_, .f32⟩
  | 90 => ⟨S4096, .f32⟩
  | 91 => ⟨S4096x1, .f32⟩
  | 92 => ⟨S4096x200, .f32⟩
  | 93 => ⟨S4096x200, .i1⟩
  | 94 => ⟨S1x200, .i32⟩
  | 95 => ⟨S_, .i32⟩
  | 96 => ⟨S_, .i32⟩
  | 97 => ⟨S4096x200, .i32⟩
  | 98 => ⟨S4096x200, .i32⟩
  | 99 => ⟨S4096x200, .i32⟩
  | 100 => ⟨S_, .i32⟩
  | 101 => ⟨S4096, .i32⟩
  | 102 => ⟨S4096x1x1, .i32⟩
  | 103 => ⟨S_, .i32⟩
  | 104 => ⟨S4096x1x1, .i32⟩
  | 105 => ⟨S4096x1x1, .i1⟩
  | 106 => ⟨S_, .i32⟩
  | 107 => ⟨S4096x1x1, .i32⟩
  | 108 => ⟨S4096x1x1, .i32⟩
  | 109 => ⟨S4096x1x1, .i32⟩
  | 110 => ⟨S1, .i32⟩
  | 111 => ⟨S_, .i32⟩
  | 112 => ⟨S4096x1x1, .i32⟩
  | 113 => ⟨S4096x1x1, .i1⟩
  | 114 => ⟨S1x1x1, .i32⟩
  | 115 => ⟨S4096x1x1, .i32⟩
  | 116 => ⟨S4096x1x1, .i1⟩
  | 117 => ⟨S4096x1x1, .i1⟩
  | 118 => ⟨S_, .i1⟩
  | 119 => ⟨S4096x1, .i1⟩
  | 120 => ⟨S4096x1x16, .f32⟩
  | 121 => ⟨S4096x1x16, .i1⟩
  | 122 => ⟨S_, .f32⟩
  | 123 => ⟨S4096x1x16, .f32⟩
  | 124 => ⟨S4096x1x16, .f32⟩
  | 125 => ⟨S4096x16, .f32⟩
  | 126 => ⟨S1x4096, .i32⟩
  | 127 => ⟨S4096, .i32⟩
  | _ => ⟨S3x4096, .i32⟩

abbrev hbmTy0_2 (i : Nat) : BufTy := match i % 128 with
  | 0 => ⟨S4096x1, .i32⟩
  | 1 => ⟨S1x200, .i32⟩
  | 2 => ⟨S4096x200, .i32⟩
  | 3 => ⟨S4096x200, .i32⟩
  | 4 => ⟨S4096x200, .i1⟩
  | 5 => ⟨S1x4096x200, .i32⟩
  | 6 => ⟨S4096x200, .i32⟩
  | 7 => ⟨S_, .i32⟩
  | 8 => ⟨S4096x200, .i32⟩
  | 9 => ⟨S4096x200, .i1⟩
  | 10 => ⟨S_, .i32⟩
  | 11 => ⟨S4096x200, .i32⟩
  | 12 => ⟨S4096x200, .i32⟩
  | 13 => ⟨S4096x200, .i32⟩
  | 14 => ⟨S4096x200x1, .i32⟩
  | 15 => ⟨S1, .i32⟩
  | 16 => ⟨S_, .i32⟩
  | 17 => ⟨S4096x200x1, .i32⟩
  | 18 => ⟨S4096x200x1, .i1⟩
  | 19 => ⟨S1x1x1, .i32⟩
  | 20 => ⟨S4096x200x1, .i32⟩
  | 21 => ⟨S4096x200x1, .i1⟩
  | 22 => ⟨S4096x200x1, .i1⟩
  | 23 => ⟨S_, .i1⟩
  | 24 => ⟨S4096x200, .i1⟩
  | 25 => ⟨S4096x200x1, .f32⟩
  | 26 => ⟨S4096x200x1, .i1⟩
  | 27 => ⟨S_, .f32⟩
  | 28 => ⟨S4096x200x1, .f32⟩
  | 29 => ⟨S4096x200x1, .f32⟩
  | 30 => ⟨S4096x200x1, .i1⟩
  | 31 => ⟨S_, .f32⟩
  | 32 => ⟨S4096x200x1, .f32⟩
  | 33 => ⟨S4096x200x1, .f32⟩
  | 34 => ⟨S1x4096, .i32⟩
  | 35 => ⟨S4096, .i32⟩
  | 36 => ⟨S4096x1, .i32⟩
  | 37 => ⟨S1x200, .i32⟩
  | 38 => ⟨S4096x200, .i32⟩
  | 39 => ⟨S4096x200, .i32⟩
  | 40 => ⟨S4096x200, .i1⟩
  | 41 => ⟨S1x4096x200, .i32⟩
  | 42 => ⟨S4096x200, .i32⟩
  | 43 => ⟨S_, .i32⟩
  | 44 => ⟨S4096x200, .i32⟩
  | 45 => ⟨S4096x200, .i1⟩
  | 46 => ⟨S_, .i32⟩
  | 47 => ⟨S4096x200, .i32⟩
  | 48 => ⟨S4096x200, .i32⟩
  | 49 => ⟨S4096x200, .i32⟩
  | 50 => ⟨S4096x200x1, .i32⟩
  | 51 => ⟨S1, .i32⟩
  | 52 => ⟨S_, .i32⟩
  | 53 => ⟨S4096x200x1, .i32⟩
  | 54 => ⟨S4096x200x1, .i1⟩
  | 55 => ⟨S1x1x1, .i32⟩
  | 56 => ⟨S4096x200x1, .i32⟩
  | 57 => ⟨S4096x200x1, .i1⟩
  | 58 => ⟨S4096x200x1, .i1⟩
  | 59 => ⟨S_, .i1⟩
  | 60 => ⟨S4096x200, .i1⟩
  | 61 => ⟨S4096x200x16, .f32⟩
  | 62 => ⟨S4096x200x16, .i1⟩
  | 63 => ⟨S_, .f32⟩
  | 64 => ⟨S4096x200x16, .f32⟩
  | 65 => ⟨S4096x200x16, .f32⟩
  | 66 => ⟨S4096x200x1, .i1⟩
  | 67 => ⟨S_, .f32⟩
  | 68 => ⟨S4096x200x16, .f32⟩
  | 69 => ⟨S4096x200x16, .i1⟩
  | 70 => ⟨S4096x200x16, .f32⟩
  | 71 => ⟨S_, .f32⟩
  | 72 => ⟨S4096x1, .f32⟩
  | 73 => ⟨S_, .f32⟩
  | 74 => ⟨S4096x1, .f32⟩
  | 75 => ⟨S4096x1, .f32⟩
  | 76 => ⟨S4096x1x1, .f32⟩
  | 77 => ⟨S4096x200x1, .f32⟩
  | 78 => ⟨S4096x200x1, .f32⟩
  | 79 => ⟨S4096x200x1, .f32⟩
  | 80 => ⟨S_, .f32⟩
  | 81 => ⟨S4096x1, .f32⟩
  | 82 => ⟨S4096x1x1, .f32⟩
  | 83 => ⟨S4096x200x1, .f32⟩
  | 84 => ⟨S4096x200x1, .f32⟩
  | 85 => ⟨S4096x200x16, .f32⟩
  | 86 => ⟨S4096x200x16, .f32⟩
  | 87 => ⟨S_, .f32⟩
  | 88 => ⟨S4096x16, .f32⟩
  | 89 => ⟨S_, .f32⟩
  | 90 => ⟨S16, .f32⟩
  | 91 => ⟨S_, .f32⟩
  | 92 => ⟨S16, .f32⟩
  | 93 => ⟨S16, .f32⟩
  | 94 => ⟨S1x16, .f32⟩
  | 95 => ⟨S4096x16, .f32⟩
  | 96 => ⟨S4096x16, .f32⟩
  | 97 => ⟨S4096x16, .f32⟩
  | 98 => ⟨S_, .f32⟩
  | 99 => ⟨S16, .f32⟩
  | 100 => ⟨S_, .f32⟩
  | 101 => ⟨S16, .f32⟩
  | 102 => ⟨S16, .f32⟩
  | 103 => ⟨S1x16, .f32⟩
  | 104 => ⟨S16, .f32⟩
  | 105 => ⟨S1x16, .f32⟩
  | 106 => ⟨S4096x16, .f32⟩
  | 107 => ⟨S4096x16, .f32⟩
  | 108 => ⟨S1x16, .f32⟩
  | 109 => ⟨S4096x16, .f32⟩
  | 110 => ⟨S4096x16, .f32⟩
  | 111 => ⟨S_, .f32⟩
  | 112 => ⟨S16, .f32⟩
  | 113 => ⟨S16, .f32⟩
  | 114 => ⟨S16, .f32⟩
  | 115 => ⟨S1x16, .f32⟩
  | 116 => ⟨S4096x16, .f32⟩
  | 117 => ⟨S4096x16, .f32⟩
  | 118 => ⟨S1x16, .f32⟩
  | 119 => ⟨S16, .f32⟩
  | 120 => ⟨S1x16, .f32⟩
  | 121 => ⟨S4096x16, .f32⟩
  | 122 => ⟨S4096x16, .f32⟩
  | 123 => ⟨S_, .f32⟩
  | 124 => ⟨S16, .f32⟩
  | 125 => ⟨S_, .f32⟩
  | 126 => ⟨S16, .f32⟩
  | 127 => ⟨S16, .f32⟩
  | _ => ⟨S3x4096, .i32⟩

abbrev hbmTy0_3 (i : Nat) : BufTy := match i % 128 with
  | 0 => ⟨S1x16, .f32⟩
  | 1 => ⟨S4096x16, .f32⟩
  | 2 => ⟨S4096x16, .f32⟩
  | 3 => ⟨S4096x16, .f32⟩
  | 4 => ⟨S_, .f32⟩
  | 5 => ⟨S16, .f32⟩
  | 6 => ⟨S_, .f32⟩
  | 7 => ⟨S16, .f32⟩
  | 8 => ⟨S16, .f32⟩
  | 9 => ⟨S1x16, .f32⟩
  | 10 => ⟨S16, .f32⟩
  | 11 => ⟨S1x16, .f32⟩
  | 12 => ⟨S4096x16, .f32⟩
  | 13 => ⟨S4096x16, .f32⟩
  | 14 => ⟨S1x16, .f32⟩
  | 15 => ⟨S4096x16, .f32⟩
  | 16 => ⟨S4096x16, .f32⟩
  | 17 => ⟨S_, .f32⟩
  | 18 => ⟨S16, .f32⟩
  | 19 => ⟨S16, .f32⟩
  | 20 => ⟨S16, .f32⟩
  | 21 => ⟨S1x16, .f32⟩
  | 22 => ⟨S4096x16, .f32⟩
  | 23 => ⟨S4096x16, .f32⟩
  | 24 => ⟨S1x16, .f32⟩
  | 25 => ⟨S16, .f32⟩
  | 26 => ⟨S1x16, .f32⟩
  | 27 => ⟨S4096x16, .f32⟩
  | 28 => ⟨S4096x16, .f32⟩
  | 29 => ⟨S_, .f32⟩
  | 30 => ⟨S16, .f32⟩
  | 31 => ⟨S_, .f32⟩
  | 32 => ⟨S16, .f32⟩
  | 33 => ⟨S16, .f32⟩
  | 34 => ⟨S1x16, .f32⟩
  | 35 => ⟨S4096x16, .f32⟩
  | 36 => ⟨S4096x16, .f32⟩
  | 37 => ⟨S4096x16, .f32⟩
  | 38 => ⟨S_, .f32⟩
  | 39 => ⟨S16, .f32⟩
  | 40 => ⟨S_, .f32⟩
  | 41 => ⟨S16, .f32⟩
  | 42 => ⟨S16, .f32⟩
  | 43 => ⟨S1x16, .f32⟩
  | 44 => ⟨S16, .f32⟩
  | 45 => ⟨S1x16, .f32⟩
  | 46 => ⟨S4096x16, .f32⟩
  | 47 => ⟨S4096x16, .f32⟩
  | 48 => ⟨S1x16, .f32⟩
  | 49 => ⟨S4096x16, .f32⟩
  | 50 => ⟨S4096x16, .f32⟩
  | 51 => ⟨S_, .f32⟩
  | 52 => ⟨S16, .f32⟩
  | 53 => ⟨S16, .f32⟩
  | 54 => ⟨S16, .f32⟩
  | 55 => ⟨S1x16, .f32⟩
  | 56 => ⟨S4096x16, .f32⟩
  | 57 => ⟨S4096x16, .f32⟩
  | 58 => ⟨S1x16, .f32⟩
  | 59 => ⟨S16, .f32⟩
  | 60 => ⟨S1x16, .f32⟩
  | 61 => ⟨S4096x16, .f32⟩
  | 62 => ⟨S4096x16, .f32⟩
  | 63 => ⟨S_, .f32⟩
  | 64 => ⟨S16, .f32⟩
  | 65 => ⟨S_, .f32⟩
  | 66 => ⟨S16, .f32⟩
  | 67 => ⟨S16, .f32⟩
  | 68 => ⟨S1x16, .f32⟩
  | 69 => ⟨S4096x16, .f32⟩
  | 70 => ⟨S4096x16, .f32⟩
  | 71 => ⟨S4096x16, .f32⟩
  | 72 => ⟨S_, .f32⟩
  | 73 => ⟨S16, .f32⟩
  | 74 => ⟨S_, .f32⟩
  | 75 => ⟨S16, .f32⟩
  | 76 => ⟨S16, .f32⟩
  | 77 => ⟨S1x16, .f32⟩
  | 78 => ⟨S16, .f32⟩
  | 79 => ⟨S1x16, .f32⟩
  | 80 => ⟨S4096x16, .f32⟩
  | 81 => ⟨S4096x16, .f32⟩
  | 82 => ⟨S1x16, .f32⟩
  | 83 => ⟨S4096x16, .f32⟩
  | 84 => ⟨S4096x16, .f32⟩
  | 85 => ⟨S_, .f32⟩
  | 86 => ⟨S16, .f32⟩
  | 87 => ⟨S16, .f32⟩
  | 88 => ⟨S16, .f32⟩
  | 89 => ⟨S1x16, .f32⟩
  | 90 => ⟨S4096x16, .f32⟩
  | 91 => ⟨S4096x16, .f32⟩
  | 92 => ⟨S1x16, .f32⟩
  | 93 => ⟨S16, .f32⟩
  | 94 => ⟨S1x16, .f32⟩
  | 95 => ⟨S4096x16, .f32⟩
  | 96 => ⟨S4096x16, .f32⟩
  | 97 => ⟨S4096x112, .f32⟩
  | 98 => ⟨S4096x64, .f32⟩
  | 99 => ⟨S1x64, .f32⟩
  | 100 => ⟨S4096x64, .f32⟩
  | 101 => ⟨S4096x64, .f32⟩
  | 102 => ⟨S_, .f32⟩
  | 103 => ⟨S4096x64, .f32⟩
  | 104 => ⟨S4096x64, .f32⟩
  | 105 => ⟨S4096x32, .f32⟩
  | 106 => ⟨S1x32, .f32⟩
  | 107 => ⟨S4096x32, .f32⟩
  | 108 => ⟨S4096x32, .f32⟩
  | 109 => ⟨S_, .f32⟩
  | 110 => ⟨S4096x32, .f32⟩
  | 111 => ⟨S4096x32, .f32⟩
  | 112 => ⟨S4096x1, .f32⟩
  | 113 => ⟨S1x1, .f32⟩
  | 114 => ⟨S4096x1, .f32⟩
  | 115 => ⟨S4096x1, .f32⟩
  | 116 => ⟨S4096x1, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096x1, .f32⟩
  | 123 => ⟨S4096x1, .f32⟩
  | 124 => ⟨S4096, .f32⟩
  | _ => ⟨S3x4096, .i32⟩

abbrev hbmTy (i : Nat) : BufTy := match i / 128 with
  | 0 => hbmTy0_0 i
  | 1 => hbmTy0_1 i
  | 2 => hbmTy0_2 i
  | 3 => hbmTy0_3 i
  | _ => ⟨S3x4096, .i32⟩

abbrev bufTy : (tb : Table) → Fin (tcTables nBuf tb) → BufTy
  | .hbm, ⟨i, _⟩ => hbmTy i
  | _, _ => ⟨S3x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v8 : Ref sig .tc := ⟨.hbm, 93, rfl⟩
abbrev main_v9 : Ref sig .tc := ⟨.hbm, 94, rfl⟩
abbrev main_v10 : Ref sig .tc := ⟨.hbm, 95, rfl⟩
abbrev main_v11 : Ref sig .tc := ⟨.hbm, 96, rfl⟩
abbrev main_v12 : Ref sig .tc := ⟨.hbm, 97, rfl⟩
abbrev main_v13 : Ref sig .tc := ⟨.hbm, 98, rfl⟩
abbrev main_v14 : Ref sig .tc := ⟨.hbm, 99, rfl⟩
abbrev main_v15 : Ref sig .tc := ⟨.hbm, 100, rfl⟩
abbrev main_v16 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_call3_c : Ref sig .tc := ⟨.hbm, 105, rfl⟩
abbrev main_call3_v0 : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_c_1 : Ref sig .tc := ⟨.hbm, 113, rfl⟩
abbrev main_call3_c_2 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_3 : Ref sig .tc := ⟨.hbm, 121, rfl⟩
abbrev main_call3_v12 : Ref sig .tc := ⟨.hbm, 122, rfl⟩
abbrev main_call3_v13 : Ref sig .tc := ⟨.hbm, 123, rfl⟩
abbrev main_call3_v14 : Ref sig .tc := ⟨.hbm, 124, rfl⟩
abbrev main_call3_cst : Ref sig .tc := ⟨.hbm, 125, rfl⟩
abbrev main_call3_v15 : Ref sig .tc := ⟨.hbm, 126, rfl⟩
abbrev main_v20 : Ref sig .tc := ⟨.hbm, 127, rfl⟩
abbrev main_v21 : Ref sig .tc := ⟨.hbm, 128, rfl⟩
abbrev main_cst : Ref sig .tc := ⟨.hbm, 129, rfl⟩
abbrev main_v22 : Ref sig .tc := ⟨.hbm, 130, rfl⟩
abbrev main_call4_v0 : Ref sig .tc := ⟨.hbm, 131, rfl⟩
abbrev main_v23 : Ref sig .tc := ⟨.hbm, 132, rfl⟩
abbrev main_cst_0 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_c_2 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_c_3 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_cst : Ref sig .tc := ⟨.hbm, 164, rfl⟩
abbrev main_call5_v15 : Ref sig .tc := ⟨.hbm, 165, rfl⟩
abbrev main_v34 : Ref sig .tc := ⟨.hbm, 166, rfl⟩
abbrev main_v35 : Ref sig .tc := ⟨.hbm, 167, rfl⟩
abbrev main_cst_1 : Ref sig .tc := ⟨.hbm, 168, rfl⟩
abbrev main_v36 : Ref sig .tc := ⟨.hbm, 169, rfl⟩
abbrev main_call6_v0 : Ref sig .tc := ⟨.hbm, 170, rfl⟩
abbrev main_v37 : Ref sig .tc := ⟨.hbm, 171, rfl⟩
abbrev main_cst_2 : Ref sig .tc := ⟨.hbm, 172, rfl⟩
abbrev main_v38 : Ref sig .tc := ⟨.hbm, 173, rfl⟩
abbrev main_cst_3 : Ref sig .tc := ⟨.hbm, 174, rfl⟩
abbrev main_v39 : Ref sig .tc := ⟨.hbm, 175, rfl⟩
abbrev main_v40 : Ref sig .tc := ⟨.hbm, 176, rfl⟩
abbrev main_v41 : Ref sig .tc := ⟨.hbm, 177, rfl⟩
abbrev main_v42 : Ref sig .tc := ⟨.hbm, 178, rfl⟩
abbrev main_v43 : Ref sig .tc := ⟨.hbm, 179, rfl⟩
abbrev main_v44 : Ref sig .tc := ⟨.hbm, 180, rfl⟩
abbrev main_v45 : Ref sig .tc := ⟨.hbm, 181, rfl⟩
abbrev main_v46 : Ref sig .tc := ⟨.hbm, 182, rfl⟩
abbrev main_v47 : Ref sig .tc := ⟨.hbm, 183, rfl⟩
abbrev main_v48 : Ref sig .tc := ⟨.hbm, 184, rfl⟩
abbrev main_v49 : Ref sig .tc := ⟨.hbm, 185, rfl⟩
abbrev main_call7_c : Ref sig .tc := ⟨.hbm, 186, rfl⟩
abbrev main_call7_v0 : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_v5 : Ref sig .tc := ⟨.hbm, 193, rfl⟩
abbrev main_call7_c_1 : Ref sig .tc := ⟨.hbm, 194, rfl⟩
abbrev main_call7_c_2 : Ref sig .tc := ⟨.hbm, 195, rfl⟩
abbrev main_call7_v6 : Ref sig .tc := ⟨.hbm, 196, rfl⟩
abbrev main_call7_v7 : Ref sig .tc := ⟨.hbm, 197, rfl⟩
abbrev main_call7_v8 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_c_3 : Ref sig .tc := ⟨.hbm, 202, rfl⟩
abbrev main_call7_v12 : Ref sig .tc := ⟨.hbm, 203, rfl⟩
abbrev main_call7_v13 : Ref sig .tc := ⟨.hbm, 204, rfl⟩
abbrev main_call7_v14 : Ref sig .tc := ⟨.hbm, 205, rfl⟩
abbrev main_call7_cst : Ref sig .tc := ⟨.hbm, 206, rfl⟩
abbrev main_call7_v15 : Ref sig .tc := ⟨.hbm, 207, rfl⟩
abbrev main_v50 : Ref sig .tc := ⟨.hbm, 208, rfl⟩
abbrev main_v51 : Ref sig .tc := ⟨.hbm, 209, rfl⟩
abbrev main_cst_4 : Ref sig .tc := ⟨.hbm, 210, rfl⟩
abbrev main_v52 : Ref sig .tc := ⟨.hbm, 211, rfl⟩
abbrev main_call8_v0 : Ref sig .tc := ⟨.hbm, 212, rfl⟩
abbrev main_v53 : Ref sig .tc := ⟨.hbm, 213, rfl⟩
abbrev main_v54 : Ref sig .tc := ⟨.hbm, 214, rfl⟩
abbrev main_cst_5 : Ref sig .tc := ⟨.hbm, 215, rfl⟩
abbrev main_v55 : Ref sig .tc := ⟨.hbm, 216, rfl⟩
abbrev main_cst_6 : Ref sig .tc := ⟨.hbm, 217, rfl⟩
abbrev main_v56 : Ref sig .tc := ⟨.hbm, 218, rfl⟩
abbrev main_v57 : Ref sig .tc := ⟨.hbm, 219, rfl⟩
abbrev main_v58 : Ref sig .tc := ⟨.hbm, 220, rfl⟩
abbrev main_v59 : Ref sig .tc := ⟨.hbm, 221, rfl⟩
abbrev main_v60 : Ref sig .tc := ⟨.hbm, 222, rfl⟩
abbrev main_c : Ref sig .tc := ⟨.hbm, 223, rfl⟩
abbrev main_call9_v0 : Ref sig .tc := ⟨.hbm, 224, rfl⟩
abbrev main_call9_v1 : Ref sig .tc := ⟨.hbm, 225, rfl⟩
abbrev main_call9_v2 : Ref sig .tc := ⟨.hbm, 226, rfl⟩
abbrev main_v61 : Ref sig .tc := ⟨.hbm, 227, rfl⟩
abbrev main_c_7 : Ref sig .tc := ⟨.hbm, 228, rfl⟩
abbrev main_v62 : Ref sig .tc := ⟨.hbm, 229, rfl⟩
abbrev main_v63 : Ref sig .tc := ⟨.hbm, 230, rfl⟩
abbrev main_call10_c : Ref sig .tc := ⟨.hbm, 231, rfl⟩
abbrev main_call10_v0 : Ref sig .tc := ⟨.hbm, 232, rfl⟩
abbrev main_call10_v1 : Ref sig .tc := ⟨.hbm, 233, rfl⟩
abbrev main_call10_c_0 : Ref sig .tc := ⟨.hbm, 234, rfl⟩
abbrev main_call10_v2 : Ref sig .tc := ⟨.hbm, 235, rfl⟩
abbrev main_call10_v3 : Ref sig .tc := ⟨.hbm, 236, rfl⟩
abbrev main_call10_v4 : Ref sig .tc := ⟨.hbm, 237, rfl⟩
abbrev main_call10_c_1 : Ref sig .tc := ⟨.hbm, 238, rfl⟩
abbrev main_call10_c_2 : Ref sig .tc := ⟨.hbm, 239, rfl⟩
abbrev main_call10_v5 : Ref sig .tc := ⟨.hbm, 240, rfl⟩
abbrev main_call10_v6 : Ref sig .tc := ⟨.hbm, 241, rfl⟩
abbrev main_call10_v7 : Ref sig .tc := ⟨.hbm, 242, rfl⟩
abbrev main_call10_v8 : Ref sig .tc := ⟨.hbm, 243, rfl⟩
abbrev main_call10_v9 : Ref sig .tc := ⟨.hbm, 244, rfl⟩
abbrev main_call10_v10 : Ref sig .tc := ⟨.hbm, 245, rfl⟩
abbrev main_call10_c_3 : Ref sig .tc := ⟨.hbm, 246, rfl⟩
abbrev main_call10_v11 : Ref sig .tc := ⟨.hbm, 247, rfl⟩
abbrev main_call10_v12 : Ref sig .tc := ⟨.hbm, 248, rfl⟩
abbrev main_call10_v13 : Ref sig .tc := ⟨.hbm, 249, rfl⟩
abbrev main_call10_cst : Ref sig .tc := ⟨.hbm, 250, rfl⟩
abbrev main_call10_v14 : Ref sig .tc := ⟨.hbm, 251, rfl⟩
abbrev main_v64 : Ref sig .tc := ⟨.hbm, 252, rfl⟩
abbrev main_v65 : Ref sig .tc := ⟨.hbm, 253, rfl⟩
abbrev main_v66 : Ref sig .tc := ⟨.hbm, 254, rfl⟩
abbrev main_v67 : Ref sig .tc := ⟨.hbm, 255, rfl⟩
abbrev main_v68 : Ref sig .tc := ⟨.hbm, 256, rfl⟩
abbrev main_v69 : Ref sig .tc := ⟨.hbm, 257, rfl⟩
abbrev main_v70 : Ref sig .tc := ⟨.hbm, 258, rfl⟩
abbrev main_v71 : Ref sig .tc := ⟨.hbm, 259, rfl⟩
abbrev main_v72 : Ref sig .tc := ⟨.hbm, 260, rfl⟩
abbrev main_v73 : Ref sig .tc := ⟨.hbm, 261, rfl⟩
abbrev main_v74 : Ref sig .tc := ⟨.hbm, 262, rfl⟩
abbrev main_call11_c : Ref sig .tc := ⟨.hbm, 263, rfl⟩
abbrev main_call11_v0 : Ref sig .tc := ⟨.hbm, 264, rfl⟩
abbrev main_call11_v1 : Ref sig .tc := ⟨.hbm, 265, rfl⟩
abbrev main_call11_c_0 : Ref sig .tc := ⟨.hbm, 266, rfl⟩
abbrev main_call11_v2 : Ref sig .tc := ⟨.hbm, 267, rfl⟩
abbrev main_call11_v3 : Ref sig .tc := ⟨.hbm, 268, rfl⟩
abbrev main_call11_v4 : Ref sig .tc := ⟨.hbm, 269, rfl⟩
abbrev main_call11_v5 : Ref sig .tc := ⟨.hbm, 270, rfl⟩
abbrev main_call11_c_1 : Ref sig .tc := ⟨.hbm, 271, rfl⟩
abbrev main_call11_c_2 : Ref sig .tc := ⟨.hbm, 272, rfl⟩
abbrev main_call11_v6 : Ref sig .tc := ⟨.hbm, 273, rfl⟩
abbrev main_call11_v7 : Ref sig .tc := ⟨.hbm, 274, rfl⟩
abbrev main_call11_v8 : Ref sig .tc := ⟨.hbm, 275, rfl⟩
abbrev main_call11_v9 : Ref sig .tc := ⟨.hbm, 276, rfl⟩
abbrev main_call11_v10 : Ref sig .tc := ⟨.hbm, 277, rfl⟩
abbrev main_call11_v11 : Ref sig .tc := ⟨.hbm, 278, rfl⟩
abbrev main_call11_c_3 : Ref sig .tc := ⟨.hbm, 279, rfl⟩
abbrev main_call11_v12 : Ref sig .tc := ⟨.hbm, 280, rfl⟩
abbrev main_call11_v13 : Ref sig .tc := ⟨.hbm, 281, rfl⟩
abbrev main_call11_v14 : Ref sig .tc := ⟨.hbm, 282, rfl⟩
abbrev main_call11_cst : Ref sig .tc := ⟨.hbm, 283, rfl⟩
abbrev main_call11_v15 : Ref sig .tc := ⟨.hbm, 284, rfl⟩
abbrev main_v75 : Ref sig .tc := ⟨.hbm, 285, rfl⟩
abbrev main_v76 : Ref sig .tc := ⟨.hbm, 286, rfl⟩
abbrev main_cst_8 : Ref sig .tc := ⟨.hbm, 287, rfl⟩
abbrev main_v77 : Ref sig .tc := ⟨.hbm, 288, rfl⟩
abbrev main_v78 : Ref sig .tc := ⟨.hbm, 289, rfl⟩
abbrev main_v79 : Ref sig .tc := ⟨.hbm, 290, rfl⟩
abbrev main_v80 : Ref sig .tc := ⟨.hbm, 291, rfl⟩
abbrev main_v81 : Ref sig .tc := ⟨.hbm, 292, rfl⟩
abbrev main_v82 : Ref sig .tc := ⟨.hbm, 293, rfl⟩
abbrev main_v83 : Ref sig .tc := ⟨.hbm, 294, rfl⟩
abbrev main_v84 : Ref sig .tc := ⟨.hbm, 295, rfl⟩
abbrev main_v85 : Ref sig .tc := ⟨.hbm, 296, rfl⟩
abbrev main_v86 : Ref sig .tc := ⟨.hbm, 297, rfl⟩
abbrev main_v87 : Ref sig .tc := ⟨.hbm, 298, rfl⟩
abbrev main_call13_c : Ref sig .tc := ⟨.hbm, 299, rfl⟩
abbrev main_call13_v0 : Ref sig .tc := ⟨.hbm, 300, rfl⟩
abbrev main_call13_v1 : Ref sig .tc := ⟨.hbm, 301, rfl⟩
abbrev main_call13_c_0 : Ref sig .tc := ⟨.hbm, 302, rfl⟩
abbrev main_call13_v2 : Ref sig .tc := ⟨.hbm, 303, rfl⟩
abbrev main_call13_v3 : Ref sig .tc := ⟨.hbm, 304, rfl⟩
abbrev main_call13_v4 : Ref sig .tc := ⟨.hbm, 305, rfl⟩
abbrev main_call13_v5 : Ref sig .tc := ⟨.hbm, 306, rfl⟩
abbrev main_call13_c_1 : Ref sig .tc := ⟨.hbm, 307, rfl⟩
abbrev main_call13_c_2 : Ref sig .tc := ⟨.hbm, 308, rfl⟩
abbrev main_call13_v6 : Ref sig .tc := ⟨.hbm, 309, rfl⟩
abbrev main_call13_v7 : Ref sig .tc := ⟨.hbm, 310, rfl⟩
abbrev main_call13_v8 : Ref sig .tc := ⟨.hbm, 311, rfl⟩
abbrev main_call13_v9 : Ref sig .tc := ⟨.hbm, 312, rfl⟩
abbrev main_call13_v10 : Ref sig .tc := ⟨.hbm, 313, rfl⟩
abbrev main_call13_v11 : Ref sig .tc := ⟨.hbm, 314, rfl⟩
abbrev main_call13_c_3 : Ref sig .tc := ⟨.hbm, 315, rfl⟩
abbrev main_call13_v12 : Ref sig .tc := ⟨.hbm, 316, rfl⟩
abbrev main_call13_v13 : Ref sig .tc := ⟨.hbm, 317, rfl⟩
abbrev main_call13_v14 : Ref sig .tc := ⟨.hbm, 318, rfl⟩
abbrev main_call13_cst : Ref sig .tc := ⟨.hbm, 319, rfl⟩
abbrev main_call13_v15 : Ref sig .tc := ⟨.hbm, 320, rfl⟩
abbrev main_v88 : Ref sig .tc := ⟨.hbm, 321, rfl⟩
abbrev main_v89 : Ref sig .tc := ⟨.hbm, 322, rfl⟩
abbrev main_cst_9 : Ref sig .tc := ⟨.hbm, 323, rfl⟩
abbrev main_v90 : Ref sig .tc := ⟨.hbm, 324, rfl⟩
abbrev main_call14_v0 : Ref sig .tc := ⟨.hbm, 325, rfl⟩
abbrev main_v91 : Ref sig .tc := ⟨.hbm, 326, rfl⟩
abbrev main_cst_10 : Ref sig .tc := ⟨.hbm, 327, rfl⟩
abbrev main_v92 : Ref sig .tc := ⟨.hbm, 328, rfl⟩
abbrev main_cst_11 : Ref sig .tc := ⟨.hbm, 329, rfl⟩
abbrev main_v93 : Ref sig .tc := ⟨.hbm, 330, rfl⟩
abbrev main_v94 : Ref sig .tc := ⟨.hbm, 331, rfl⟩
abbrev main_v95 : Ref sig .tc := ⟨.hbm, 332, rfl⟩
abbrev main_v96 : Ref sig .tc := ⟨.hbm, 333, rfl⟩
abbrev main_v97 : Ref sig .tc := ⟨.hbm, 334, rfl⟩
abbrev main_v98 : Ref sig .tc := ⟨.hbm, 335, rfl⟩
abbrev main_cst_12 : Ref sig .tc := ⟨.hbm, 336, rfl⟩
abbrev main_v99 : Ref sig .tc := ⟨.hbm, 337, rfl⟩
abbrev main_v100 : Ref sig .tc := ⟨.hbm, 338, rfl⟩
abbrev main_v101 : Ref sig .tc := ⟨.hbm, 339, rfl⟩
abbrev main_v102 : Ref sig .tc := ⟨.hbm, 340, rfl⟩
abbrev main_v103 : Ref sig .tc := ⟨.hbm, 341, rfl⟩
abbrev main_v104 : Ref sig .tc := ⟨.hbm, 342, rfl⟩
abbrev main_cst_13 : Ref sig .tc := ⟨.hbm, 343, rfl⟩
abbrev main_v105 : Ref sig .tc := ⟨.hbm, 344, rfl⟩
abbrev main_cst_14 : Ref sig .tc := ⟨.hbm, 345, rfl⟩
abbrev main_v106 : Ref sig .tc := ⟨.hbm, 346, rfl⟩
abbrev main_cst_15 : Ref sig .tc := ⟨.hbm, 347, rfl⟩
abbrev main_v107 : Ref sig .tc := ⟨.hbm, 348, rfl⟩
abbrev main_v108 : Ref sig .tc := ⟨.hbm, 349, rfl⟩
abbrev main_v109 : Ref sig .tc := ⟨.hbm, 350, rfl⟩
abbrev main_v110 : Ref sig .tc := ⟨.hbm, 351, rfl⟩
abbrev main_v111 : Ref sig .tc := ⟨.hbm, 352, rfl⟩
abbrev main_v112 : Ref sig .tc := ⟨.hbm, 353, rfl⟩
abbrev main_cst_16 : Ref sig .tc := ⟨.hbm, 354, rfl⟩
abbrev main_v113 : Ref sig .tc := ⟨.hbm, 355, rfl⟩
abbrev main_cst_17 : Ref sig .tc := ⟨.hbm, 356, rfl⟩
abbrev main_v114 : Ref sig .tc := ⟨.hbm, 357, rfl⟩
abbrev main_v115 : Ref sig .tc := ⟨.hbm, 358, rfl⟩
abbrev main_v116 : Ref sig .tc := ⟨.hbm, 359, rfl⟩
abbrev main_v117 : Ref sig .tc := ⟨.hbm, 360, rfl⟩
abbrev main_v118 : Ref sig .tc := ⟨.hbm, 361, rfl⟩
abbrev main_v119 : Ref sig .tc := ⟨.hbm, 362, rfl⟩
abbrev main_v120 : Ref sig .tc := ⟨.hbm, 363, rfl⟩
abbrev main_v121 : Ref sig .tc := ⟨.hbm, 364, rfl⟩
abbrev main_v122 : Ref sig .tc := ⟨.hbm, 365, rfl⟩
abbrev main_v123 : Ref sig .tc := ⟨.hbm, 366, rfl⟩
abbrev main_cst_18 : Ref sig .tc := ⟨.hbm, 367, rfl⟩
abbrev main_v124 : Ref sig .tc := ⟨.hbm, 368, rfl⟩
abbrev main_v125 : Ref sig .tc := ⟨.hbm, 369, rfl⟩
abbrev main_v126 : Ref sig .tc := ⟨.hbm, 370, rfl⟩
abbrev main_v127 : Ref sig .tc := ⟨.hbm, 371, rfl⟩
abbrev main_v128 : Ref sig .tc := ⟨.hbm, 372, rfl⟩
abbrev main_v129 : Ref sig .tc := ⟨.hbm, 373, rfl⟩
abbrev main_v130 : Ref sig .tc := ⟨.hbm, 374, rfl⟩
abbrev main_v131 : Ref sig .tc := ⟨.hbm, 375, rfl⟩
abbrev main_v132 : Ref sig .tc := ⟨.hbm, 376, rfl⟩
abbrev main_v133 : Ref sig .tc := ⟨.hbm, 377, rfl⟩
abbrev main_v134 : Ref sig .tc := ⟨.hbm, 378, rfl⟩
abbrev main_cst_19 : Ref sig .tc := ⟨.hbm, 379, rfl⟩
abbrev main_v135 : Ref sig .tc := ⟨.hbm, 380, rfl⟩
abbrev main_cst_20 : Ref sig .tc := ⟨.hbm, 381, rfl⟩
abbrev main_v136 : Ref sig .tc := ⟨.hbm, 382, rfl⟩
abbrev main_v137 : Ref sig .tc := ⟨.hbm, 383, rfl⟩
abbrev main_v138 : Ref sig .tc := ⟨.hbm, 384, rfl⟩
abbrev main_v139 : Ref sig .tc := ⟨.hbm, 385, rfl⟩
abbrev main_v140 : Ref sig .tc := ⟨.hbm, 386, rfl⟩
abbrev main_v141 : Ref sig .tc := ⟨.hbm, 387, rfl⟩
abbrev main_cst_21 : Ref sig .tc := ⟨.hbm, 388, rfl⟩
abbrev main_v142 : Ref sig .tc := ⟨.hbm, 389, rfl⟩
abbrev main_cst_22 : Ref sig .tc := ⟨.hbm, 390, rfl⟩
abbrev main_v143 : Ref sig .tc := ⟨.hbm, 391, rfl⟩
abbrev main_v144 : Ref sig .tc := ⟨.hbm, 392, rfl⟩
abbrev main_v145 : Ref sig .tc := ⟨.hbm, 393, rfl⟩
abbrev main_v146 : Ref sig .tc := ⟨.hbm, 394, rfl⟩
abbrev main_v147 : Ref sig .tc := ⟨.hbm, 395, rfl⟩
abbrev main_v148 : Ref sig .tc := ⟨.hbm, 396, rfl⟩
abbrev main_v149 : Ref sig .tc := ⟨.hbm, 397, rfl⟩
abbrev main_v150 : Ref sig .tc := ⟨.hbm, 398, rfl⟩
abbrev main_v151 : Ref sig .tc := ⟨.hbm, 399, rfl⟩
abbrev main_v152 : Ref sig .tc := ⟨.hbm, 400, rfl⟩
abbrev main_cst_23 : Ref sig .tc := ⟨.hbm, 401, rfl⟩
abbrev main_v153 : Ref sig .tc := ⟨.hbm, 402, rfl⟩
abbrev main_v154 : Ref sig .tc := ⟨.hbm, 403, rfl⟩
abbrev main_v155 : Ref sig .tc := ⟨.hbm, 404, rfl⟩
abbrev main_v156 : Ref sig .tc := ⟨.hbm, 405, rfl⟩
abbrev main_v157 : Ref sig .tc := ⟨.hbm, 406, rfl⟩
abbrev main_v158 : Ref sig .tc := ⟨.hbm, 407, rfl⟩
abbrev main_v159 : Ref sig .tc := ⟨.hbm, 408, rfl⟩
abbrev main_v160 : Ref sig .tc := ⟨.hbm, 409, rfl⟩
abbrev main_v161 : Ref sig .tc := ⟨.hbm, 410, rfl⟩
abbrev main_v162 : Ref sig .tc := ⟨.hbm, 411, rfl⟩
abbrev main_v163 : Ref sig .tc := ⟨.hbm, 412, rfl⟩
abbrev main_cst_24 : Ref sig .tc := ⟨.hbm, 413, rfl⟩
abbrev main_v164 : Ref sig .tc := ⟨.hbm, 414, rfl⟩
abbrev main_cst_25 : Ref sig .tc := ⟨.hbm, 415, rfl⟩
abbrev main_v165 : Ref sig .tc := ⟨.hbm, 416, rfl⟩
abbrev main_v166 : Ref sig .tc := ⟨.hbm, 417, rfl⟩
abbrev main_v167 : Ref sig .tc := ⟨.hbm, 418, rfl⟩
abbrev main_v168 : Ref sig .tc := ⟨.hbm, 419, rfl⟩
abbrev main_v169 : Ref sig .tc := ⟨.hbm, 420, rfl⟩
abbrev main_v170 : Ref sig .tc := ⟨.hbm, 421, rfl⟩
abbrev main_cst_26 : Ref sig .tc := ⟨.hbm, 422, rfl⟩
abbrev main_v171 : Ref sig .tc := ⟨.hbm, 423, rfl⟩
abbrev main_cst_27 : Ref sig .tc := ⟨.hbm, 424, rfl⟩
abbrev main_v172 : Ref sig .tc := ⟨.hbm, 425, rfl⟩
abbrev main_v173 : Ref sig .tc := ⟨.hbm, 426, rfl⟩
abbrev main_v174 : Ref sig .tc := ⟨.hbm, 427, rfl⟩
abbrev main_v175 : Ref sig .tc := ⟨.hbm, 428, rfl⟩
abbrev main_v176 : Ref sig .tc := ⟨.hbm, 429, rfl⟩
abbrev main_v177 : Ref sig .tc := ⟨.hbm, 430, rfl⟩
abbrev main_v178 : Ref sig .tc := ⟨.hbm, 431, rfl⟩
abbrev main_v179 : Ref sig .tc := ⟨.hbm, 432, rfl⟩
abbrev main_v180 : Ref sig .tc := ⟨.hbm, 433, rfl⟩
abbrev main_v181 : Ref sig .tc := ⟨.hbm, 434, rfl⟩
abbrev main_cst_28 : Ref sig .tc := ⟨.hbm, 435, rfl⟩
abbrev main_v182 : Ref sig .tc := ⟨.hbm, 436, rfl⟩
abbrev main_v183 : Ref sig .tc := ⟨.hbm, 437, rfl⟩
abbrev main_v184 : Ref sig .tc := ⟨.hbm, 438, rfl⟩
abbrev main_v185 : Ref sig .tc := ⟨.hbm, 439, rfl⟩
abbrev main_v186 : Ref sig .tc := ⟨.hbm, 440, rfl⟩
abbrev main_v187 : Ref sig .tc := ⟨.hbm, 441, rfl⟩
abbrev main_v188 : Ref sig .tc := ⟨.hbm, 442, rfl⟩
abbrev main_v189 : Ref sig .tc := ⟨.hbm, 443, rfl⟩
abbrev main_v190 : Ref sig .tc := ⟨.hbm, 444, rfl⟩
abbrev main_v191 : Ref sig .tc := ⟨.hbm, 445, rfl⟩
abbrev main_v192 : Ref sig .tc := ⟨.hbm, 446, rfl⟩
abbrev main_cst_29 : Ref sig .tc := ⟨.hbm, 447, rfl⟩
abbrev main_v193 : Ref sig .tc := ⟨.hbm, 448, rfl⟩
abbrev main_cst_30 : Ref sig .tc := ⟨.hbm, 449, rfl⟩
abbrev main_v194 : Ref sig .tc := ⟨.hbm, 450, rfl⟩
abbrev main_v195 : Ref sig .tc := ⟨.hbm, 451, rfl⟩
abbrev main_v196 : Ref sig .tc := ⟨.hbm, 452, rfl⟩
abbrev main_v197 : Ref sig .tc := ⟨.hbm, 453, rfl⟩
abbrev main_v198 : Ref sig .tc := ⟨.hbm, 454, rfl⟩
abbrev main_v199 : Ref sig .tc := ⟨.hbm, 455, rfl⟩
abbrev main_cst_31 : Ref sig .tc := ⟨.hbm, 456, rfl⟩
abbrev main_v200 : Ref sig .tc := ⟨.hbm, 457, rfl⟩
abbrev main_cst_32 : Ref sig .tc := ⟨.hbm, 458, rfl⟩
abbrev main_v201 : Ref sig .tc := ⟨.hbm, 459, rfl⟩
abbrev main_v202 : Ref sig .tc := ⟨.hbm, 460, rfl⟩
abbrev main_v203 : Ref sig .tc := ⟨.hbm, 461, rfl⟩
abbrev main_v204 : Ref sig .tc := ⟨.hbm, 462, rfl⟩
abbrev main_v205 : Ref sig .tc := ⟨.hbm, 463, rfl⟩
abbrev main_v206 : Ref sig .tc := ⟨.hbm, 464, rfl⟩
abbrev main_v207 : Ref sig .tc := ⟨.hbm, 465, rfl⟩
abbrev main_v208 : Ref sig .tc := ⟨.hbm, 466, rfl⟩
abbrev main_v209 : Ref sig .tc := ⟨.hbm, 467, rfl⟩
abbrev main_v210 : Ref sig .tc := ⟨.hbm, 468, rfl⟩
abbrev main_cst_33 : Ref sig .tc := ⟨.hbm, 469, rfl⟩
abbrev main_v211 : Ref sig .tc := ⟨.hbm, 470, rfl⟩
abbrev main_v212 : Ref sig .tc := ⟨.hbm, 471, rfl⟩
abbrev main_v213 : Ref sig .tc := ⟨.hbm, 472, rfl⟩
abbrev main_v214 : Ref sig .tc := ⟨.hbm, 473, rfl⟩
abbrev main_v215 : Ref sig .tc := ⟨.hbm, 474, rfl⟩
abbrev main_v216 : Ref sig .tc := ⟨.hbm, 475, rfl⟩
abbrev main_v217 : Ref sig .tc := ⟨.hbm, 476, rfl⟩
abbrev main_v218 : Ref sig .tc := ⟨.hbm, 477, rfl⟩
abbrev main_v219 : Ref sig .tc := ⟨.hbm, 478, rfl⟩
abbrev main_v220 : Ref sig .tc := ⟨.hbm, 479, rfl⟩
abbrev main_v221 : Ref sig .tc := ⟨.hbm, 480, rfl⟩
abbrev main_v222 : Ref sig .tc := ⟨.hbm, 481, rfl⟩
abbrev main_v223 : Ref sig .tc := ⟨.hbm, 482, rfl⟩
abbrev main_v224 : Ref sig .tc := ⟨.hbm, 483, rfl⟩
abbrev main_v225 : Ref sig .tc := ⟨.hbm, 484, rfl⟩
abbrev main_v226 : Ref sig .tc := ⟨.hbm, 485, rfl⟩
abbrev main_call15_cst : Ref sig .tc := ⟨.hbm, 486, rfl⟩
abbrev main_call15_v0 : Ref sig .tc := ⟨.hbm, 487, rfl⟩
abbrev main_v227 : Ref sig .tc := ⟨.hbm, 488, rfl⟩
abbrev main_v228 : Ref sig .tc := ⟨.hbm, 489, rfl⟩
abbrev main_v229 : Ref sig .tc := ⟨.hbm, 490, rfl⟩
abbrev main_v230 : Ref sig .tc := ⟨.hbm, 491, rfl⟩
abbrev main_v231 : Ref sig .tc := ⟨.hbm, 492, rfl⟩
abbrev main_call16_cst : Ref sig .tc := ⟨.hbm, 493, rfl⟩
abbrev main_call16_v0 : Ref sig .tc := ⟨.hbm, 494, rfl⟩
abbrev main_v232 : Ref sig .tc := ⟨.hbm, 495, rfl⟩
abbrev main_v233 : Ref sig .tc := ⟨.hbm, 496, rfl⟩
abbrev main_v234 : Ref sig .tc := ⟨.hbm, 497, rfl⟩
abbrev main_v235 : Ref sig .tc := ⟨.hbm, 498, rfl⟩
abbrev main_v236 : Ref sig .tc := ⟨.hbm, 499, rfl⟩
abbrev main_v237 : Ref sig .tc := ⟨.hbm, 500, rfl⟩
abbrev main_v238 : Ref sig .tc := ⟨.hbm, 501, rfl⟩
abbrev main_cst_34 : Ref sig .tc := ⟨.hbm, 502, rfl⟩
abbrev main_v239 : Ref sig .tc := ⟨.hbm, 503, rfl⟩
abbrev main_v240 : Ref sig .tc := ⟨.hbm, 504, rfl⟩
abbrev main_cst_35 : Ref sig .tc := ⟨.hbm, 505, rfl⟩
abbrev main_v241 : Ref sig .tc := ⟨.hbm, 506, rfl⟩
abbrev main_v242 : Ref sig .tc := ⟨.hbm, 507, rfl⟩
abbrev main_v243 : Ref sig .tc := ⟨.hbm, 508, rfl⟩

abbrev nD : Nat := 1
abbrev τ : Topo := Topo.v7x

variable {F : FTy → Type} [FloatOps F]
-- ==== Proof.PRuns.lean ====
/- What the runs of the printed kernel share: the buffers written after its region, the claim about its arguments read off
   the final state, the branch conditions at each point, and the staging and scratch buffers. -/
module

public import proofs.«01_k».proof.Proof.Gen.Kernel.Skeleton
public import proofs.«01_k».proof.Proof.Gen.Kernel.Frame
public import Idealize.ShloMosaic.Lib.Claim

@[expose] public section

-- the long axes of the windows
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v39}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c),
      (Pipeline.RDat.FramePostR.arr_in h c 1 rfl).trans ((hA c 1).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      (Pipeline.RDat.FramePostR.arr_in h c 9 rfl).trans ((hA c 9).trans (V_main_arg11 m c)),
      (Pipeline.RDat.FramePostR.arr_in h c 10 rfl).trans ((hA c 10).trans (V_main_arg12 m c)),
      ((h c).2 main_arg13 (Finset.mem_sdiff.mpr ⟨Pipeline.mem_restRefs_of main_arg13 (by decide) (by decide), by decide⟩)).trans (V_main_arg13 m c),
      ((h c).2 main_arg14 (Finset.mem_sdiff.mpr ⟨Pipeline.mem_restRefs_of main_arg14 (by decide) (by decide), by decide⟩)).trans (V_main_arg14 m c),
      ((h c).2 main_arg15 (Finset.mem_sdiff.mpr ⟨Pipeline.mem_restRefs_of main_arg15 (by decide) (by decide), by decide⟩)).trans (V_main_arg15 m c),
      ((h c).2 main_arg16 (Finset.mem_sdiff.mpr ⟨Pipeline.mem_restRefs_of main_arg16 (by decide) (by decide), by decide⟩)).trans (V_main_arg16 m c),
      ((h c).2 main_arg17 (Finset.mem_sdiff.mpr ⟨Pipeline.mem_restRefs_of main_arg17 (by decide) (by decide), by decide⟩)).trans (V_main_arg17 m c),
      ((h c).2 main_arg18 (Finset.mem_sdiff.mpr ⟨Pipeline.mem_restRefs_of main_arg18 (by decide) (by decide), by decide⟩)).trans (V_main_arg18 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S3x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x200x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x16 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x112 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x32 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4096 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S112x4096 .f32 := Memref.whole cc0_scratch0
abbrev scM0_1 : Memref sig .tc .vmem S16x8 .f32 := Memref.whole cc0_scratch1
/-- The scratch `arg20` the kernel carries between points, as a view: what it holds is stated through it. -/
abbrev VS0_1 : View sig .tc .vmem S16x8 .f32 := scM0_1.view

/-- The launch's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.PRunA.lean ====
/- The printed kernel's body at the first point, run whole. -/
module

public import proofs.«01_k».proof.Proof.PRuns

@[expose] public section

-- the long axes of the windows
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is long
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (17) at anything, handed back at some contents nothing names. -/
noncomputable def kernelRun0_A (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) :
    { LS1 : List (View.Piece (Elt F) S16x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__fused_body_eq_skeleton]; unfold cc0__fused_body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [HS0]
    · iexists _, _; isplitr; swap; · iexact HS0
      ipureintro; rfl
    iexists _; iexact HS1

end Cert.Kernel.Body

end
-- ==== Proof.PRunB.lean ====
/- The printed kernel's body at a middle point, run whole. -/
module

public import proofs.«01_k».proof.Proof.PRunA

@[expose] public section

-- the long axes of the windows
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is long
set_option maxHeartbeats 1000000 in
/-- What the body's stores leave in each output's staging memref, as pieces (last first) IN CASE B (`scf.if` 0 not taken, `scf.if` 1 not taken: points 1, 2, 3, 4, 5, 6), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (17) at anything, handed back at some contents nothing names. -/
noncomputable def kernelRun0_B (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs1 : Vec F S16x8 .f32) :
    { LS1 : List (View.Piece (Elt F) S16x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ owns (c : Thread nD τ) arg20 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__fused_body_eq_skeleton]; unfold cc0__fused_body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [HS0]
    · iexists _, _; isplitr; swap; · iexact HS0
      ipureintro; rfl
    iexists _; iexact HS1

end Cert.Kernel.Body

end
-- ==== Proof.PRunC.lean ====
/- The printed kernel's body at the last point, run whole. -/
module

public import proofs.«01_k».proof.Proof.PRunB

@[expose] public section

-- the long axes of the windows
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is long
set_option maxHeartbeats 1000000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (17) at anything, handed back at some contents nothing names. -/
noncomputable def kernelRun0_C (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs1 : Vec F S16x8 .f32) :
    { LS1 : List (View.Piece (Elt F) S16x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ owns (c : Thread nD τ) arg20 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__fused_body_eq_skeleton]; unfold cc0__fused_body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [HS0]
    · iexists _, _; isplitr; swap; · iexact HS0
      ipureintro; rfl
    iexists _; iexact HS1

end Cert.Kernel.Body

end
-- ==== Proof.PFrame.lean ====
/- The frame of the printed kernel: the sums carried from point to point, the output's contents left open, the body at every
   point, the launch. -/
module

public import proofs.«01_k».proof.Proof.PRunC
public import Idealize.ShloMosaic.Lib.Claim

@[expose] public section

-- the long axes of the windows
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg20`, which the kernel carries between points, cover it: 2 pieces of `S16x8` tiling it (Lib/Ring.lean `Piece.tiledL`). -/
theorem scover0_A_1 (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (y : S16x8.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16).1 S16x8.size (by sl_kernel_rfl) y

/-- What case A leaves in scratch `arg20`: its pieces read back over junk. -/
def sout0_A_1 (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) : Vec F S16x8 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16).1)

/-- Case B's pieces for scratch `arg20`, which the kernel carries between points, cover it: 1 piece of `S16x8` tiling it (Lib/Ring.lean `Piece.tiledL`). -/
theorem scover0_B_1 (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs1 : Vec F S16x8 .f32) (y : S16x8.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs1).1 S16x8.size (by sl_kernel_rfl) y

/-- What case B leaves in scratch `arg20`: its pieces read back over junk. -/
def sout0_B_1 (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs1 : Vec F S16x8 .f32) : Vec F S16x8 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs1).1)

/-- Case C's pieces for scratch `arg20`, which the kernel carries between points, cover it: 1 piece of `S16x8` tiling it (Lib/Ring.lean `Piece.tiledL`). -/
theorem scover0_C_1 (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs1 : Vec F S16x8 .f32) (y : S16x8.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs1).1 S16x8.size (by sl_kernel_rfl) y

/-- What case C leaves in scratch `arg20`: its pieces read back over junk. -/
def sout0_C_1 (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs1 : Vec F S16x8 .f32) : Vec F S16x8 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs1).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x8 .f32
  | 0, hn => sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩)
  | n + 1, hn =>
    if h0 : (n + 1) % 8 = 0 then
      if h1 : (n + 1) % 8 = 7 then
        False.elim (by have hN : n + 1 < 8 := lt_of_lt_of_eq hn (show cfg0.N = 8 from N_0); omega)
      else
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩)
    else
      if h1 : (n + 1) % 8 = 7 then
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn))
      else
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (outsAt0 c n (Nat.lt_of_succ_lt hn))

/-- `outsAt0` at a point of case A: that case's contents. -/
theorem outsAt0_A (c : Dev nD) (t : Fin cfg0.N) (h0 : t.val % 8 = 0) (h1 : ¬t.val % 8 = 7) :
    outsAt0 m c t.val t.isLt = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)))) ∗ (∃ r, prngReg c r)) := by
  cases n with
  | zero => exact absurd rfl hz
  | succ n => rfl

/-! ## The pipeline's proof data -/

/-- The output windows this certificate FORGETS (17): nothing reads what the kernel leaves in them, so nothing
    of it is named (Lib/Pipeline/Dat.lean `Dat.toRForget`). -/
def forgets0 : Fin 18 → Bool := fun w => w.val == 17

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨_ + 18, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (∃ d, owns (c : Thread nD τ) (ms0_17 t) fullShare d))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      by_cases hz : t.val = 0
      · rw [PhiS_castSucc m c t, PhiS_zero m c _ _ hz, PhiA0_eq]
        rw [outsAt0_A m c t h0 h1]
        unfold sout0_A_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_A c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexists _; iexact H17
        isplitl [HS0]; · iexact HS0
        isplitl [HS1]; · iexact HS1
        iintro ⟨H0, H1, H2, H3, H4, H5, H6, H7, H8, H9, H10, H11, H12, H13, H14, H15, H16, H17, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
      · exfalso; have hN : t.val < 8 := lt_of_lt_of_eq t.isLt (show cfg0.N = 8 from N_0); omega
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      by_cases hz : t.val = 0
      · exfalso; have hN : t.val < 8 := lt_of_lt_of_eq t.isLt (show cfg0.N = 8 from N_0); omega
      · rw [PhiS_castSucc m c t, PhiS_pos m c _ _ hz]
        rw [outsAt0_C m c t h0 h1]
        unfold sout0_C_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexists _; iexact H17
        isplitl [HS0]; · iexact HS0
        isplitl [HS1]; · iexact HS1
        iintro ⟨H0, H1, H2, H3, H4, H5, H6, H7, H8, H9, H10, H11, H12, H13, H14, H15, H16, H17, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      by_cases hz : t.val = 0
      · exfalso; have hN : t.val < 8 := lt_of_lt_of_eq t.isLt (show cfg0.N = 8 from N_0); omega
      · rw [PhiS_castSucc m c t, PhiS_pos m c _ _ hz]
        rw [outsAt0_B m c t h0 h1]
        unfold sout0_B_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexists _; iexact H17
        isplitl [HS0]; · iexact HS0
        isplitl [HS1]; · iexact HS1
        iintro ⟨H0, H1, H2, H3, H4, H5, H6, H7, H8, H9, H10, H11, H12, H13, H14, H15, H16, H17, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- the launch theorem's implicit arguments are found by unifying its conclusion with this one
set_option backward.isDefEq.respectTransparency.types false in
set_option maxHeartbeats 800000 in
/-- The launch: `run_main`'s statement, and every semaphore counter at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- For any values, from any memory with zero counters: every weakly fair execution of @main on the
    TensorCores terminates, and every final state has every INPUT array of the pipeline unchanged, nothing stated of the
    FORGOTTEN outputs (window 17) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Kernel.Body

end
-- ==== Proof.Tile.lean ====
/- What the kernel's body computes from the blocks of one grid point, named part by part: the counts of the rows of
   a field, the seven groups of sixteen rows of the block's columns, the sums of one block, and the layers over all columns. -/
module

public import proofs.«01_k».proof.Proof.Gen.KernelIdeal.Skeleton

@[expose] public section

-- the expressions are long chains
set_option maxRecDepth 16384

noncomputable section

namespace Cert.KernelIdeal.Body

open Cert.KernelIdeal.Gen
open Idealize.ShloMosaic Idealize.ShloMosaic.TcCoe

variable {F : FTy → Type} [FloatOps F] [Named F]

/-- The entries of one multi-valued field: the feature at a position below the field's length, row 31 at the others. -/
def featOf (len : IVec S1x512 32) (feat : IVec S1x200x512 32) : IVec S200x512 32 :=
  select (cmpi .slt (broadcastTo S200x512 (iota .tc S200x1 32 [0] iota_S200x1_d0_w32) broadcasts_S200x1_S200x512)
      (broadcastTo S200x512 (shapeCast S1x512 (shapeCast S512 len shapeCasts_S1x512_S512) shapeCasts_S512_S1x512) broadcasts_S1x512_S200x512))
    (shapeCast S200x512 feat shapeCasts_S1x200x512_S200x512) (broadcast S200x512 31#32)

/-- The weight of an entry: `2^(8 (e mod 4))`, the byte its row is counted in. -/
def weightOf (e : IVec S200x512 32) : IVec S200x512 32 :=
  fptosi 32 (exp2 (F := F) (sitofp .f32 (shli (andi e (broadcast S200x512 3#32)) (broadcast S200x512 3#32))))

/-- Four counts at once: the sum of the weights of the entries in group `k`. -/
def word (w h : IVec S200x512 32) (k : BitVec 32) : IVec S1x512 32 :=
  shapeCast S1x512 (multiReductionI .add [0] S512 (select (cmpi .eq h (broadcast S200x512 k)) w (broadcast S200x512 0#32)) 0#32 reduces_S200x512_S512 rfl) shapeCasts_S512_S1x512

/-- The byte at bit `j` of a row of words. -/
def byteRow (s : IVec S1x512 32) (j : BitVec 32) : IVec S1x512 32 :=
  andi (shrui s (broadcast S1x512 j)) (broadcast S1x512 255#32)

/-- The 32 rows of counts, from the weights and the groups of the entries. -/
def countRows (w h : IVec S200x512 32) : IVec S32x512 32 :=
  concatenate S32x512 0 [⟨S1x512, byteRow (word w h 0#32) 0#32⟩, ⟨S1x512, byteRow (word w h 0#32) 8#32⟩, ⟨S1x512, byteRow (word w h 0#32) 16#32⟩, ⟨S1x512, byteRow (word w h 0#32) 24#32⟩,
    ⟨S1x512, byteRow (word w h 1#32) 0#32⟩, ⟨S1x512, byteRow (word w h 1#32) 8#32⟩, ⟨S1x512, byteRow (word w h 1#32) 16#32⟩, ⟨S1x512, byteRow (word w h 1#32) 24#32⟩,
    ⟨S1x512, byteRow (word w h 2#32) 0#32⟩, ⟨S1x512, byteRow (word w h 2#32) 8#32⟩, ⟨S1x512, byteRow (word w h 2#32) 16#32⟩, ⟨S1x512, byteRow (word w h 2#32) 24#32⟩,
    ⟨S1x512, byteRow (word w h 3#32) 0#32⟩, ⟨S1x512, byteRow (word w h 3#32) 8#32⟩, ⟨S1x512, byteRow (word w h 3#32) 16#32⟩, ⟨S1x512, byteRow (word w h 3#32) 24#32⟩,
    ⟨S1x512, byteRow (word w h 4#32) 0#32⟩, ⟨S1x512, byteRow (word w h 4#32) 8#32⟩, ⟨S1x512, byteRow (word w h 4#32) 16#32⟩, ⟨S1x512, byteRow (word w h 4#32) 24#32⟩,
    ⟨S1x512, byteRow (word w h 5#32) 0#32⟩, ⟨S1x512, byteRow (word w h 5#32) 8#32⟩, ⟨S1x512, byteRow (word w h 5#32) 16#32⟩, ⟨S1x512, byteRow (word w h 5#32) 24#32⟩,
    ⟨S1x512, byteRow (word w h 6#32) 0#32⟩, ⟨S1x512, byteRow (word w h 6#32) 8#32⟩, ⟨S1x512, byteRow (word w h 6#32) 16#32⟩, ⟨S1x512, byteRow (word w h 6#32) 24#32⟩,
    ⟨S1x512, byteRow (word w h 7#32) 0#32⟩, ⟨S1x512, byteRow (word w h 7#32) 8#32⟩, ⟨S1x512, byteRow (word w h 7#32) 16#32⟩, ⟨S1x512, byteRow (word w h 7#32) 24#32⟩]
    concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S32x512_d0

/-- The counts of the rows of a field, as floats. -/
def countsOf (e : IVec S200x512 32) : FVec F S32x512 .f32 :=
  sitofp .f32 (countRows (weightOf (F := F) e) (shrsi e (broadcast S200x512 2#32)))

/-- A table times a matrix of per-row coefficients. -/
def times (tab : FVec F S16x32 .f32) (c : FVec F S32x512 .f32) : FVec F S16x512 .f32 :=
  matmul dot_S16x32_S32x512_S16x512_1_0_0_1_n_n none tab c (constant S16x512 .f32 0x00000000#32)

/-- The indicator of one row index per column. -/
def oneHot (r : IVec S1x512 32) : FVec F S32x512 .f32 :=
  sitofp .f32 (extui 32 (cmpi .eq (broadcastTo S32x512 (shapeCast S1x512 (shapeCast S512 r shapeCasts_S1x512_S512) shapeCasts_S512_S1x512) broadcasts_S1x512_S32x512)
    (broadcastTo S32x512 (iota .tc S32x1 32 [0] iota_S32x1_d0_w32) broadcasts_S32x1_S32x512)) natLt_1_32)

/-- The rows of a single-valued field. -/
def single (tab : FVec F S16x32 .f32) (r : IVec S1x512 32) : FVec F S16x512 .f32 := times tab (oneHot r)

/-- The squared norms of the rows present in a column, `-1` at the rows absent. -/
def presentNorm (tab : FVec F S16x32 .f32) (c : FVec F S32x512 .f32) : FVec F S32x512 .f32 :=
  select (cmpf .ogt c (broadcast S32x512 (Scalar.ofBits .f32 0x00000000#32)))
    (broadcastTo S32x512 (shapeCast S32x1 (shapeCast S32x1 (multiReduction .add [0] S32 (mulf tab tab) 0x00000000#32 reduces_S16x32_S32 (.inl rfl) rfl) shapeCasts_S32_S32x1) shapeCasts_S32x1_S32x1) broadcasts_S32x1_S32x512)
    (broadcast S32x512 (Scalar.ofBits .f32 0xBF800000#32))

/-- Where the present norm is the column's greatest. -/
def isMax (n : FVec F S32x512 .f32) : IVec S32x512 1 :=
  cmpf .oeq n (broadcastTo S32x512 (shapeCast S1x512 (multiReduction .maximumf [0] S512 n 0xFF800000#32 reduces_S32x512_S512 (.inl rfl) rfl) shapeCasts_S512_S1x512) broadcasts_S1x512_S32x512)

/-- The smallest row marked. -/
def firstRow (b : IVec S32x512 1) : IVec S1x512 32 :=
  shapeCast S1x512 (multiReductionI .minsi [0] S512 (select b
      (broadcastTo S32x512 (shapeCast S32x1 (iota .tc S32x1 32 [0] iota_S32x1_d0_w32) shapeCasts_S32x1_S32x1) broadcasts_S32x1_S32x512)
      (broadcast S32x512 32#32)) 2147483647#32 reduces_S32x512_S512 rfl) shapeCasts_S512_S1x512

/-- The third pooled field: the row of the greatest norm among those present. -/
def chosen (tab : FVec F S16x32 .f32) (c : FVec F S32x512 .f32) : FVec F S16x512 .f32 :=
  times tab (sitofp .f32 (extui 32 (cmpi .eq (broadcastTo S32x512 (iota .tc S32x1 32 [0] iota_S32x1_d0_w32) broadcasts_S32x1_S32x512)
    (broadcastTo S32x512 (firstRow (isMax (presentNorm tab c))) broadcasts_S1x512_S32x512)) natLt_1_32))

/-- The fourth pooled field: the rows weighted by the exponential of their attention, over the sum of all weights. -/
def attended (tab : FVec F S16x32 .f32) (at_ : FVec F S1x32 .f32) (c : FVec F S32x512 .f32) : FVec F S16x512 .f32 :=
  divf (times (mulf tab (broadcastTo S16x32 (exp at_) broadcasts_S1x32_S16x32)) c)
    (broadcastTo S16x512 (addf
      (shapeCast S1x512 (multiReduction .add [0] S512 (mulf c (broadcastTo S32x512 (transpose S32x1 [1, 0] (exp at_) transposes_S1x32_p1_0_S32x1) broadcasts_S32x1_S32x512)) 0x00000000#32 reduces_S32x512_S512 (.inl rfl) rfl) shapeCasts_S512_S1x512)
      (subf (broadcast S1x512 (Scalar.ofBits .f32 0x43480000#32))
        (shapeCast S1x512 (multiReduction .add [0] S512 c 0x00000000#32 reduces_S32x512_S512 (.inl rfl) rfl) shapeCasts_S512_S1x512))) broadcasts_S1x512_S16x512)

/-- The counts of field 0, -/
def cnt0 (x1 : IVec S4x512 32) (x2 : IVec S4x200x512 32) : FVec F S32x512 .f32 :=
  countsOf (featOf (extractStridedSlice S1x512 ![0, 0] x1 slices_S4x512_o0_0_S1x512)
    (extractStridedSlice S1x200x512 ![0, 0, 0] (shapeCast S4x200x512 x2 shapeCasts_S4x200x512_S4x200x512) slices_S4x200x512_o0_0_0_S1x200x512))
/-- of field 1. -/
def cnt1 (x1 : IVec S4x512 32) (x2 : IVec S4x200x512 32) : FVec F S32x512 .f32 :=
  countsOf (featOf (extractStridedSlice S1x512 ![1, 0] x1 slices_S4x512_o1_0_S1x512)
    (extractStridedSlice S1x200x512 ![1, 0, 0] (shapeCast S4x200x512 x2 shapeCasts_S4x200x512_S4x200x512) slices_S4x200x512_o1_0_0_S1x200x512))
/-- of field 2. -/
def cnt2 (x1 : IVec S4x512 32) (x2 : IVec S4x200x512 32) : FVec F S32x512 .f32 :=
  countsOf (featOf (extractStridedSlice S1x512 ![2, 0] x1 slices_S4x512_o2_0_S1x512)
    (extractStridedSlice S1x200x512 ![2, 0, 0] (shapeCast S4x200x512 x2 shapeCasts_S4x200x512_S4x200x512) slices_S4x200x512_o2_0_0_S1x200x512))
/-- of field 3. -/
def cnt3 (x1 : IVec S4x512 32) (x2 : IVec S4x200x512 32) : FVec F S32x512 .f32 :=
  countsOf (featOf (extractStridedSlice S1x512 ![3, 0] x1 slices_S4x512_o3_0_S1x512)
    (extractStridedSlice S1x200x512 ![3, 0, 0] (shapeCast S4x200x512 x2 shapeCasts_S4x200x512_S4x200x512) slices_S4x200x512_o3_0_0_S1x200x512))

/-- The block of a table as the body uses it. -/
def tabOf (x : FVec F S16x32 .f32) : FVec F S16x32 .f32 := shapeCast S16x32 x shapeCasts_S16x32_S16x32

/-- The first pooled field of a block: the sum of the rows. -/
def pool0 (x1 : IVec S4x512 32) (x2 : IVec S4x200x512 32) (x6 : FVec F S16x32 .f32) : FVec F S16x512 .f32 :=
  times (tabOf x6) (cnt0 x1 x2)
/-- The second: the mean over all positions. -/
def pool1 (x1 : IVec S4x512 32) (x2 : IVec S4x200x512 32) (x4 : FVec F S16x32 .f32) : FVec F S16x512 .f32 :=
  mulf (times (tabOf x4) (cnt1 x1 x2)) (broadcast S16x512 (Named.named κ "inv_l" 0x3BA3D70A#32))
/-- The third: the row of the greatest norm. -/
def pool2 (x1 : IVec S4x512 32) (x2 : IVec S4x200x512 32) (x6 : FVec F S16x32 .f32) : FVec F S16x512 .f32 :=
  chosen (tabOf x6) (cnt2 x1 x2)
/-- The fourth: the attention. -/
def pool3 (x1 : IVec S4x512 32) (x2 : IVec S4x200x512 32) (x7 : FVec F S16x32 .f32) (x8 : FVec F S1x32 .f32) : FVec F S16x512 .f32 :=
  attended (tabOf x7) (shapeCast S1x32 x8 shapeCasts_S1x32_S1x32) (cnt3 x1 x2)

/-- The 112 rows of a block of columns: three single-valued fields, then the four pooled ones. -/
def tile (x0 : IVec S3x512 32) (x1 : IVec S4x512 32) (x2 : IVec S4x200x512 32) (x3 x4 x5 x6 x7 : FVec F S16x32 .f32) (x8 : FVec F S1x32 .f32) : FVec F S112x512 .f32 :=
  shapeCast S112x512 (concatenate S112x512 0 [⟨S16x512, single (tabOf x3) (extractStridedSlice S1x512 ![0, 0] x0 slices_S3x512_o0_0_S1x512)⟩,
      ⟨S16x512, single (tabOf x4) (extractStridedSlice S1x512 ![1, 0] x0 slices_S3x512_o1_0_S1x512)⟩,
      ⟨S16x512, single (tabOf x5) (extractStridedSlice S1x512 ![2, 0] x0 slices_S3x512_o2_0_S1x512)⟩,
      ⟨S16x512, pool0 x1 x2 x6⟩, ⟨S16x512, pool1 x1 x2 x4⟩, ⟨S16x512, pool2 x1 x2 x6⟩, ⟨S16x512, pool3 x1 x2 x7 x8⟩]
    concatenates_S16x512_S16x512_S16x512_S16x512_S16x512_S16x512_S16x512_S112x512_d0) shapeCasts_S112x512_S112x512

/-- The row sums of a block, as a column. -/
def rowSum (p : FVec F S16x512 .f32) : FVec F S16x1 .f32 :=
  shapeCast S16x1 (multiReduction .add [1] S16 p 0x00000000#32 reduces_S16x512_S16 (.inl rfl) rfl) shapeCasts_S16_S16x1

/-- The eight columns of sums of a block: the sum and the sum of squares of each pooled field. -/
def sums (p0 p1 p2 p3 : FVec F S16x512 .f32) : FVec F S16x8 .f32 :=
  concatenate S16x8 1 [⟨S16x1, rowSum p0⟩, ⟨S16x1, rowSum (mulf p0 p0)⟩, ⟨S16x1, rowSum p1⟩, ⟨S16x1, rowSum (mulf p1 p1)⟩,
    ⟨S16x1, rowSum p2⟩, ⟨S16x1, rowSum (mulf p2 p2)⟩, ⟨S16x1, rowSum p3⟩, ⟨S16x1, rowSum (mulf p3 p3)⟩] concatenates_S16x1_S16x1_S16x1_S16x1_S16x1_S16x1_S16x1_S16x1_S16x8_d1

/-- The sums after a block, over the sums `s` before it. -/
def addSums (s : FVec F S16x8 .f32) (x1 : IVec S4x512 32) (x2 : IVec S4x200x512 32) (x4 x6 x7 : FVec F S16x32 .f32) (x8 : FVec F S1x32 .f32) : FVec F S16x8 .f32 :=
  shapeCast S16x8 (addf s (sums (pool0 x1 x2 x6) (pool1 x1 x2 x4) (pool2 x1 x2 x6) (pool3 x1 x2 x7 x8))) shapeCasts_S16x8_S16x8

/-- The sums before the first block: zero. -/
def noSums : FVec F S16x8 .f32 := shapeCast S16x8 (broadcast S16x8 (Scalar.ofBits .f32 0x00000000#32)) shapeCasts_S16x8_S16x8

/-- The mean of a pooled field, -/
def meanOf (s1 : FVec F S16x1 .f32) : FVec F S16x1 .f32 := mulf s1 (broadcast S16x1 (Scalar.ofBits .f32 0x39800000#32))

/-- its scale, from the row of scales, -/
def scaleOf (s1 s2 : FVec F S16x1 .f32) (g : FVec F S1x16 .f32) : FVec F S16x1 .f32 :=
  mulf (shapeCast S16x1 (shapeCast S16 g shapeCasts_S1x16_S16) shapeCasts_S16_S16x1)
    (rsqrt (addf (subf (meanOf s2) (mulf (meanOf s1) (meanOf s1))) (broadcast S16x1 (Scalar.ofBits .f32 0x3727C5AC#32))))

/-- its offset, -/
def offsetOf (s1 s2 : FVec F S16x1 .f32) (g b : FVec F S1x16 .f32) : FVec F S16x1 .f32 :=
  subf (shapeCast S16x1 (shapeCast S16 b shapeCasts_S1x16_S16) shapeCasts_S16_S16x1) (mulf (scaleOf s1 s2 g) (meanOf s1))

/-- and the normalised rows. -/
def normed (s1 s2 : FVec F S16x1 .f32) (g b : FVec F S1x16 .f32) (t : FVec F S16x4096 .f32) : FVec F S16x4096 .f32 :=
  addf (mulf (broadcastTo S16x4096 (scaleOf s1 s2 g) broadcasts_S16x1_S16x4096) t)
    (broadcastTo S16x4096 (offsetOf s1 s2 g b) broadcasts_S16x1_S16x4096)

/-- All 112 rows, the pooled ones normalised. -/
def normRows (x9 x10 : FVec F S4x16 .f32) (T : FVec F S112x4096 .f32) (S : FVec F S16x8 .f32) : FVec F S112x4096 .f32 :=
  concatenate S112x4096 0 [⟨S48x4096, extractStridedSlice S48x4096 ![0, 0] T slices_S112x4096_o0_0_S48x4096⟩,
    ⟨S16x4096, normed (extractStridedSlice S16x1 ![0, 0] S slices_S16x8_o0_0_S16x1) (extractStridedSlice S16x1 ![0, 1] S slices_S16x8_o0_1_S16x1)
      (extractStridedSlice S1x16 ![0, 0] x9 slices_S4x16_o0_0_S1x16) (extractStridedSlice S1x16 ![0, 0] x10 slices_S4x16_o0_0_S1x16)
      (extractStridedSlice S16x4096 ![48, 0] T slices_S112x4096_o48_0_S16x4096)⟩,
    ⟨S16x4096, normed (extractStridedSlice S16x1 ![0, 2] S slices_S16x8_o0_2_S16x1) (extractStridedSlice S16x1 ![0, 3] S slices_S16x8_o0_3_S16x1)
      (extractStridedSlice S1x16 ![1, 0] x9 slices_S4x16_o1_0_S1x16) (extractStridedSlice S1x16 ![1, 0] x10 slices_S4x16_o1_0_S1x16)
      (extractStridedSlice S16x4096 ![64, 0] T slices_S112x4096_o64_0_S16x4096)⟩,
    ⟨S16x4096, normed (extractStridedSlice S16x1 ![0, 4] S slices_S16x8_o0_4_S16x1) (extractStridedSlice S16x1 ![0, 5] S slices_S16x8_o0_5_S16x1)
      (extractStridedSlice S1x16 ![2, 0] x9 slices_S4x16_o2_0_S1x16) (extractStridedSlice S1x16 ![2, 0] x10 slices_S4x16_o2_0_S1x16)
      (extractStridedSlice S16x4096 ![80, 0] T slices_S112x4096_o80_0_S16x4096)⟩,
    ⟨S16x4096, normed (extractStridedSlice S16x1 ![0, 6] S slices_S16x8_o0_6_S16x1) (extractStridedSlice S16x1 ![0, 7] S slices_S16x8_o0_7_S16x1)
      (extractStridedSlice S1x16 ![3, 0] x9 slices_S4x16_o3_0_S1x16) (extractStridedSlice S1x16 ![3, 0] x10 slices_S4x16_o3_0_S1x16)
      (extractStridedSlice S16x4096 ![96, 0] T slices_S112x4096_o96_0_S16x4096)⟩]
    concatenates_S48x4096_S16x4096_S16x4096_S16x4096_S16x4096_S112x4096_d0

/-- The first layer. -/
def layer1 (x11 : FVec F S64x112 .f32) (x12 : FVec F S64x1 .f32) (t : FVec F S112x4096 .f32) : FVec F S64x4096 .f32 :=
  maximumf (addf (matmul dot_S64x112_S112x4096_S64x4096_1_0_0_1_n_n none (shapeCast S64x112 x11 shapeCasts_S64x112_S64x112) t (constant S64x4096 .f32 0x00000000#32))
    (broadcastTo S64x4096 (shapeCast S64x1 x12 shapeCasts_S64x1_S64x1) broadcasts_S64x1_S64x4096)) (broadcast S64x4096 (Scalar.ofBits .f32 0x00000000#32))

/-- The second layer. -/
def layer2 (x13 : FVec F S32x64 .f32) (x14 : FVec F S32x1 .f32) (t : FVec F S64x4096 .f32) : FVec F S32x4096 .f32 :=
  maximumf (addf (matmul dot_S32x64_S64x4096_S32x4096_1_0_0_1_n_n none (shapeCast S32x64 x13 shapeCasts_S32x64_S32x64) t (constant S32x4096 .f32 0x00000000#32))
    (broadcastTo S32x4096 (shapeCast S32x1 x14 shapeCasts_S32x1_S32x1) broadcasts_S32x1_S32x4096)) (broadcast S32x4096 (Scalar.ofBits .f32 0x00000000#32))

/-- The third layer and the logistic function. -/
def layer3 (x15 : FVec F S1x32 .f32) (x16 : FVec F S1x1 .f32) (t : FVec F S32x4096 .f32) : FVec F S1x4096 .f32 :=
  logistic (addf (matmul dot_S1x32_S32x4096_S1x4096_1_0_0_1_n_n none (shapeCast S1x32 x15 shapeCasts_S1x32_S1x32) t (constant S1x4096 .f32 0x00000000#32))
    (broadcastTo S1x4096 (shapeCast S1x1 x16 shapeCasts_S1x1_S1x1) broadcasts_S1x1_S1x4096))

/-- The output, from all 112 rows and the sums. -/
def mlp (x9 x10 : FVec F S4x16 .f32) (x11 : FVec F S64x112 .f32) (x12 : FVec F S64x1 .f32) (x13 : FVec F S32x64 .f32) (x14 : FVec F S32x1 .f32)
    (x15 : FVec F S1x32 .f32) (x16 : FVec F S1x1 .f32) (T : FVec F S112x4096 .f32) (S : FVec F S16x8 .f32) : FVec F S1x4096 .f32 :=
  layer3 x15 x16 (layer2 x13 x14 (layer1 x11 x12 (normRows x9 x10 T S)))

end Cert.KernelIdeal.Body

end
-- ==== Proof.KRuns.lean ====
/- The setting of the body at a point: which of the three cases a point is in, where the output window is
   idle, the staging memrefs and the two scratch memrefs, and the invariant the launch hands over. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- the body's functions are long chains
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- At the points of case A the printed configuration (`Cfg.idle`) calls output 17 idle: the case stores nothing into it. -/
theorem idleAt0_17_A : ∀ t : Fin cfg0.N, cond0_0 (grid0.coords t) → ¬cond0_1 (grid0.coords t) → cfg0.idle 17 (grid0.coords t) = true := by decide +kernel
/-- At the points of case A the pipeline does not write output 17's block back. -/
theorem noFlush0_17_A : ∀ t : Fin cfg0.N, cond0_0 (grid0.coords t) → ¬cond0_1 (grid0.coords t) → (cfg0.win 17).flush t = false := by decide +kernel
/-- At the points of case B the printed configuration (`Cfg.idle`) calls output 17 idle: the case stores nothing into it. -/
theorem idleAt0_17_B : ∀ t : Fin cfg0.N, ¬cond0_0 (grid0.coords t) → ¬cond0_1 (grid0.coords t) → cfg0.idle 17 (grid0.coords t) = true := by decide +kernel
/-- At the points of case B the pipeline does not write output 17's block back. -/
theorem noFlush0_17_B : ∀ t : Fin cfg0.N, ¬cond0_0 (grid0.coords t) → ¬cond0_1 (grid0.coords t) → (cfg0.win 17).flush t = false := by decide +kernel
/-- At the points of case C the printed configuration (`Cfg.idle`) calls output 17 live: the case stores into it. -/
theorem liveAt0_17_C : ∀ t : Fin cfg0.N, ¬cond0_0 (grid0.coords t) → cond0_1 (grid0.coords t) → cfg0.idle 17 (grid0.coords t) = false := by decide +kernel

/-! ## The kernel body on any staging memrefs: a subtype the run finds -/

/-- One staging buffer of output window 17, through which its contents are stated (`View.read_writes_of_cover`: the
    choice does not matter). -/
abbrev VO0_17 : View sig .tc .vmem S1x4096 .f32 := (Memref.whole cc0_stg17_0 : Memref sig .tc .vmem S1x4096 .f32).view
/-- Each window's current staging memref at point `t`, spelled as the pipeline passes it (`bodyAt0`), and its wholeness. -/
abbrev ms0_0 (t : Fin cfg0.N) : Memref sig .tc .vmem S3x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x200x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x16 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x112 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x32 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4096 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S112x4096 .f32 := Memref.whole cc0_scratch0
abbrev scM0_1 : Memref sig .tc .vmem S16x8 .f32 := Memref.whole cc0_scratch1
/-- The scratch `arg19` the kernel carries between points, as a view: what it holds is stated through it. -/
abbrev VS0_0 : View sig .tc .vmem S112x4096 .f32 := scM0_0.view
/-- The scratch `arg20` the kernel carries between points, as a view: what it holds is stated through it. -/
abbrev VS0_1 : View sig .tc .vmem S16x8 .f32 := scM0_1.view

/-- The launch's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.KRunA.lean ====
/- The run of the kernel body at the first point (the sums are cleared, nothing is written out). -/
module

public import proofs.«01_k».proof.Proof.KRuns

@[expose] public section

-- the body's functions are long chains
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the run is long
set_option maxHeartbeats 1000000 in
/-- The body at the first point (the sums are cleared, nothing is written out): the pieces its
    stores leave in the output window, in the scratch of all columns and in the scratch of the sums, with the proof that
    from the inputs' blocks, the contents `xs·` of the scratch it finds and the output window's buffer, the body
    runs to the end holding the inputs unchanged and those pieces written. -/
noncomputable def runA (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) :
    Σ' (L17 : List (View.Piece (Elt F) S1x4096 .f32)), Σ' (LS0 : List (View.Piece (Elt F) S112x4096 .f32)), { LS1 : List (View.Piece (Elt F) S16x8 .f32) //
      ∀ (xi17 : Vec F S1x4096 .f32) (xs0 : Vec F S112x4096 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare xi17 ∗ owns (c : Thread nD τ) arg19 fullShare xs0 ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare xi17 ∗ (arg19.view.loc (c : Thread nD τ) ↦[arg19.view.set]{fullShare} arg19.view.writes (Elt F) (harg19.unread xs0) LS0) ∗ (∃ f, arg20.view.loc (c : Thread nD τ) ↦[arg20.view.set]{fullShare} arg20.view.writes (Elt F) f LS1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨[], ?_, ?_, fun xi17 xs0 E K => ?run⟩
  case run =>
    simp only [cc0__fused_body_eq_skeleton]; unfold cc0__fused_body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [HS0]; · iexact HS0
    iexists _; iexact HS1

end Cert.KernelIdeal.Body

end
-- ==== Proof.KRunB.lean ====
/- The run of the kernel body at a middle point (nothing cleared, nothing written out). -/
module

public import proofs.«01_k».proof.Proof.KRuns

@[expose] public section

-- the body's functions are long chains
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the run is long
set_option maxHeartbeats 1000000 in
/-- The body at a middle point (nothing cleared, nothing written out): the pieces its
    stores leave in the output window, in the scratch of all columns and in the scratch of the sums, with the proof that
    from the inputs' blocks, the contents `xs·` of the scratch it finds and the output window's buffer, the body
    runs to the end holding the inputs unchanged and those pieces written. -/
noncomputable def runB (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs1 : Vec F S16x8 .f32) :
    Σ' (L17 : List (View.Piece (Elt F) S1x4096 .f32)), Σ' (LS0 : List (View.Piece (Elt F) S112x4096 .f32)), { LS1 : List (View.Piece (Elt F) S16x8 .f32) //
      ∀ (xi17 : Vec F S1x4096 .f32) (xs0 : Vec F S112x4096 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare xi17 ∗ owns (c : Thread nD τ) arg19 fullShare xs0 ∗ owns (c : Thread nD τ) arg20 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare xi17 ∗ (arg19.view.loc (c : Thread nD τ) ↦[arg19.view.set]{fullShare} arg19.view.writes (Elt F) (harg19.unread xs0) LS0) ∗ (∃ f, arg20.view.loc (c : Thread nD τ) ↦[arg20.view.set]{fullShare} arg20.view.writes (Elt F) f LS1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨[], ?_, ?_, fun xi17 xs0 E K => ?run⟩
  case run =>
    simp only [cc0__fused_body_eq_skeleton]; unfold cc0__fused_body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hfs0; obtain rfl := harg20.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [HS0]; · iexact HS0
    iexists _; iexact HS1

end Cert.KernelIdeal.Body

end
-- ==== Proof.KRunC.lean ====
/- The run of the kernel body at the last point (the whole scratch is read back, the layers are applied and the output is written). -/
module

public import proofs.«01_k».proof.Proof.KRuns

@[expose] public section

-- the body's functions are long chains
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the run is long
set_option maxHeartbeats 1000000 in
/-- The body at the last point (the whole scratch is read back, the layers are applied and the output is written): the pieces its
    stores leave in the output window, in the scratch of all columns and in the scratch of the sums, with the proof that
    from the inputs' blocks, the contents `xs·` of the scratch it finds and the output window's buffer, the body
    runs to the end holding the inputs unchanged and those pieces written. -/
noncomputable def runC (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs0 : Vec F S112x4096 .f32) (xs1 : Vec F S16x8 .f32) :
    Σ' (L17 : List (View.Piece (Elt F) S1x4096 .f32)), Σ' (LS0 : List (View.Piece (Elt F) S112x4096 .f32)), { LS1 : List (View.Piece (Elt F) S16x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ owns (c : Thread nD τ) arg19 fullShare xs0 ∗ owns (c : Thread nD τ) arg20 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (arg19.view.loc (c : Thread nD τ) ↦[arg19.view.set]{fullShare} arg19.view.writes (Elt F) (harg19.unread xs0) LS0) ∗ (∃ f, arg20.view.loc (c : Thread nD τ) ↦[arg20.view.set]{fullShare} arg20.view.writes (Elt F) f LS1)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__fused_body_eq_skeleton]; unfold cc0__fused_body_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg19.eq_unread hfs0; obtain rfl := harg20.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [HS0]; · iexact HS0
    iexists _; iexact HS1

end Cert.KernelIdeal.Body

end
-- ==== Proof.KPieces.lean ====
/- What the stores of the body leave, in the three kinds of grid points: the block of columns put in the scratch of all
   columns, the sums with the block's added, and at the last point the output of the layers. -/
module

public import proofs.«01_k».proof.Proof.Tile
public import proofs.«01_k».proof.Proof.KRunA
public import proofs.«01_k».proof.Proof.KRunB
public import proofs.«01_k».proof.Proof.KRunC
public import Idealize.ShloMosaic.Lib.VecWindow

@[expose] public section

set_option maxRecDepth 16384

noncomputable section

namespace Cert.KernelIdeal.Body

open Cert.KernelIdeal.Gen
open Idealize.ShloMosaic Idealize.ShloMosaic.TcCoe

variable {F : FTy → Type} [FloatOps F] [Named F]

/-- A load of a whole buffer reads the contents it was given. -/
theorem whole_read {sp : Space} {s : Shape} {e : EltTy} {M : Memref sig .tc sp s e} (h : M.IsWhole) (X : s.Idx → Elt F e)
    {off : Fin s.rank → ℕ} (inb : ∀ a, off a + s.size a ≤ s.size a) :
    M.view.readAt (Elt F) (Rect.unit (s := s) off s.size inb).toLoadRect (h.unread X) = X := by
  rw [View.readAt_full, h.read_unread]

/-- The scratch of all columns after the block `T` of point `i` is stored in it. -/
def putTile (i : grid0.Coords) (X : Vec F S112x4096 .f32) (T : FVec F S112x512 .f32) : Vec F S112x4096 .f32 :=
  VecWindow.put X (k0_off1 i) S112x512.size T

/-- The columns' scratch after the first point. -/
theorem totA (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs0 : Vec F S112x4096 .f32) :
    arg19.view.read (Elt F) (arg19.view.writes (Elt F) (harg19.unread xs0) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16).2.1) = putTile i xs0 (tile x0 x1 x2 x3 x4 x5 x6 x7 x8) := by
  refine (View.read_writes_cons_put arg19.view (harg19.unread xs0) (off' := k0_off1 i) (size := S112x512.size) (k0_off1_inb i)
    (tile (arg1.view.readAt (Elt F) (Rect.unit (s := S3x512) ![0, 0] S3x512.size inb_S3x512_S3x512_0_0).toLoadRect (harg1.unread x0)) (arg2.view.readAt (Elt F) (Rect.unit (s := S4x512) ![0, 0] S4x512.size inb_S4x512_S4x512_0_0).toLoadRect (harg2.unread x1)) (arg3.view.readAt (Elt F) (Rect.unit (s := S4x200x512) ![0, 0, 0] S4x200x512.size inb_S4x200x512_S4x200x512_0_0_0).toLoadRect (harg3.unread x2)) (arg4.view.readAt (Elt F) (Rect.unit (s := S16x32) ![0, 0] S16x32.size inb_S16x32_S16x32_0_0).toLoadRect (harg4.unread x3)) (arg5.view.readAt (Elt F) (Rect.unit (s := S16x32) ![0, 0] S16x32.size inb_S16x32_S16x32_0_0).toLoadRect (harg5.unread x4)) (arg6.view.readAt (Elt F) (Rect.unit (s := S16x32) ![0, 0] S16x32.size inb_S16x32_S16x32_0_0).toLoadRect (harg6.unread x5)) (arg7.view.readAt (Elt F) (Rect.unit (s := S16x32) ![0, 0] S16x32.size inb_S16x32_S16x32_0_0).toLoadRect (harg7.unread x6)) (arg8.view.readAt (Elt F) (Rect.unit (s := S16x32) ![0, 0] S16x32.size inb_S16x32_S16x32_0_0).toLoadRect (harg8.unread x7)) (arg9.view.readAt (Elt F) (Rect.unit (s := S1x32) ![0, 0] S1x32.size inb_S1x32_S1x32_0_0).toLoadRect (harg9.unread x8))) [] rfl).trans ?_
  rw [View.writes_nil, harg19.read_unread]
  rw [whole_read harg1 x0, whole_read harg2 x1, whole_read harg3 x2, whole_read harg4 x3, whole_read harg5 x4, whole_read harg6 x5, whole_read harg7 x6, whole_read harg8 x7, whole_read harg9 x8]
  rfl

/-- The sums after the first point. -/
theorem stA (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs0 : Vec F S112x4096 .f32) (f : arg20.view.ty.Contents (Elt F)) :
    arg20.view.read (Elt F) (arg20.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16).2.2.1) = addSums noSums x1 x2 x4 x6 x7 x8 := by
  refine (View.read_writes_full arg20.view f inb_S16x8_S16x8_0_0
    (addSums (arg20.view.readCov [(⟨(Rect.unit (s := S16x8) ![0, 0] S16x8.size inb_S16x8_S16x8_0_0), noSums⟩ : View.Piece (Elt F) S16x8 .f32)] (Rect.unit (s := S16x8) ![0, 0] S16x8.size inb_S16x8_S16x8_0_0).toLoadRect) (arg2.view.readAt (Elt F) (Rect.unit (s := S4x512) ![0, 0] S4x512.size inb_S4x512_S4x512_0_0).toLoadRect (harg2.unread x1)) (arg3.view.readAt (Elt F) (Rect.unit (s := S4x200x512) ![0, 0, 0] S4x200x512.size inb_S4x200x512_S4x200x512_0_0_0).toLoadRect (harg3.unread x2)) (arg5.view.readAt (Elt F) (Rect.unit (s := S16x32) ![0, 0] S16x32.size inb_S16x32_S16x32_0_0).toLoadRect (harg5.unread x4)) (arg7.view.readAt (Elt F) (Rect.unit (s := S16x32) ![0, 0] S16x32.size inb_S16x32_S16x32_0_0).toLoadRect (harg7.unread x6)) (arg8.view.readAt (Elt F) (Rect.unit (s := S16x32) ![0, 0] S16x32.size inb_S16x32_S16x32_0_0).toLoadRect (harg8.unread x7)) (arg9.view.readAt (Elt F) (Rect.unit (s := S1x32) ![0, 0] S1x32.size inb_S1x32_S1x32_0_0).toLoadRect (harg9.unread x8))) [(⟨(Rect.unit (s := S16x8) ![0, 0] S16x8.size inb_S16x8_S16x8_0_0), noSums⟩ : View.Piece (Elt F) S16x8 .f32)]).trans ?_
  rw [whole_read harg2 x1, whole_read harg3 x2, whole_read harg5 x4, whole_read harg7 x6, whole_read harg8 x7, whole_read harg9 x8, View.readCov_full]

/-- The columns' scratch after a middle point. -/
theorem totB (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs0 : Vec F S112x4096 .f32) (xs1 : Vec F S16x8 .f32) :
    arg19.view.read (Elt F) (arg19.view.writes (Elt F) (harg19.unread xs0) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs1).2.1) = putTile i xs0 (tile x0 x1 x2 x3 x4 x5 x6 x7 x8) := by
  refine (View.read_writes_cons_put arg19.view (harg19.unread xs0) (off' := k0_off1 i) (size := S112x512.size) (k0_off1_inb i)
    (tile (arg1.view.readAt (Elt F) (Rect.unit (s := S3x512) ![0, 0] S3x512.size inb_S3x512_S3x512_0_0).toLoadRect (harg1.unread x0)) (arg2.view.readAt (Elt F) (Rect.unit (s := S4x512) ![0, 0] S4x512.size inb_S4x512_S4x512_0_0).toLoadRect (harg2.unread x1)) (arg3.view.readAt (Elt F) (Rect.unit (s := S4x200x512) ![0, 0, 0] S4x200x512.size inb_S4x200x512_S4x200x512_0_0_0).toLoadRect (harg3.unread x2)) (arg4.view.readAt (Elt F) (Rect.unit (s := S16x32) ![0, 0] S16x32.size inb_S16x32_S16x32_0_0).toLoadRect (harg4.unread x3)) (arg5.view.readAt (Elt F) (Rect.unit (s := S16x32) ![0, 0] S16x32.size inb_S16x32_S16x32_0_0).toLoadRect (harg5.unread x4)) (arg6.view.readAt (Elt F) (Rect.unit (s := S16x32) ![0, 0] S16x32.size inb_S16x32_S16x32_0_0).toLoadRect (harg6.unread x5)) (arg7.view.readAt (Elt F) (Rect.unit (s := S16x32) ![0, 0] S16x32.size inb_S16x32_S16x32_0_0).toLoadRect (harg7.unread x6)) (arg8.view.readAt (Elt F) (Rect.unit (s := S16x32) ![0, 0] S16x32.size inb_S16x32_S16x32_0_0).toLoadRect (harg8.unread x7)) (arg9.view.readAt (Elt F) (Rect.unit (s := S1x32) ![0, 0] S1x32.size inb_S1x32_S1x32_0_0).toLoadRect (harg9.unread x8))) [] rfl).trans ?_
  rw [View.writes_nil, harg19.read_unread]
  rw [whole_read harg1 x0, whole_read harg2 x1, whole_read harg3 x2, whole_read harg4 x3, whole_read harg5 x4, whole_read harg6 x5, whole_read harg7 x6, whole_read harg8 x7, whole_read harg9 x8]
  rfl

/-- The sums after a middle point. -/
theorem stB (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : ¬cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs0 : Vec F S112x4096 .f32) (xs1 : Vec F S16x8 .f32) (f : arg20.view.ty.Contents (Elt F)) :
    arg20.view.read (Elt F) (arg20.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs1).2.2.1) = addSums xs1 x1 x2 x4 x6 x7 x8 := by
  refine (View.read_writes_full arg20.view f inb_S16x8_S16x8_0_0
    (addSums (arg20.view.readAt (Elt F) (Rect.unit (s := S16x8) ![0, 0] S16x8.size inb_S16x8_S16x8_0_0).toLoadRect (harg20.unread xs1)) (arg2.view.readAt (Elt F) (Rect.unit (s := S4x512) ![0, 0] S4x512.size inb_S4x512_S4x512_0_0).toLoadRect (harg2.unread x1)) (arg3.view.readAt (Elt F) (Rect.unit (s := S4x200x512) ![0, 0, 0] S4x200x512.size inb_S4x200x512_S4x200x512_0_0_0).toLoadRect (harg3.unread x2)) (arg5.view.readAt (Elt F) (Rect.unit (s := S16x32) ![0, 0] S16x32.size inb_S16x32_S16x32_0_0).toLoadRect (harg5.unread x4)) (arg7.view.readAt (Elt F) (Rect.unit (s := S16x32) ![0, 0] S16x32.size inb_S16x32_S16x32_0_0).toLoadRect (harg7.unread x6)) (arg8.view.readAt (Elt F) (Rect.unit (s := S16x32) ![0, 0] S16x32.size inb_S16x32_S16x32_0_0).toLoadRect (harg8.unread x7)) (arg9.view.readAt (Elt F) (Rect.unit (s := S1x32) ![0, 0] S1x32.size inb_S1x32_S1x32_0_0).toLoadRect (harg9.unread x8))) []).trans ?_
  rw [whole_read harg2 x1, whole_read harg3 x2, whole_read harg5 x4, whole_read harg7 x6, whole_read harg8 x7, whole_read harg9 x8, whole_read harg20 xs1]

/-- The columns' scratch after the last point. -/
theorem totC (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs0 : Vec F S112x4096 .f32) (xs1 : Vec F S16x8 .f32) :
    arg19.view.read (Elt F) (arg19.view.writes (Elt F) (harg19.unread xs0) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 xs1).2.1) = putTile i xs0 (tile x0 x1 x2 x3 x4 x5 x6 x7 x8) := by
  refine (View.read_writes_cons_put arg19.view (harg19.unread xs0) (off' := k0_off1 i) (size := S112x512.size) (k0_off1_inb i)
    (tile (arg1.view.readAt (Elt F) (Rect.unit (s := S3x512) ![0, 0] S3x512.size inb_S3x512_S3x512_0_0).toLoadRect (harg1.unread x0)) (arg2.view.readAt (Elt F) (Rect.unit (s := S4x512) ![0, 0] S4x512.size inb_S4x512_S4x512_0_0).toLoadRect (harg2.unread x1)) (arg3.view.readAt (Elt F) (Rect.unit (s := S4x200x512) ![0, 0, 0] S4x200x512.size inb_S4x200x512_S4x200x512_0_0_0).toLoadRect (harg3.unread x2)) (arg4.view.readAt (Elt F) (Rect.unit (s := S16x32) ![0, 0] S16x32.size inb_S16x32_S16x32_0_0).toLoadRect (harg4.unread x3)) (arg5.view.readAt (Elt F) (Rect.unit (s := S16x32) ![0, 0] S16x32.size inb_S16x32_S16x32_0_0).toLoadRect (harg5.unread x4)) (arg6.view.readAt (Elt F) (Rect.unit (s := S16x32) ![0, 0] S16x32.size inb_S16x32_S16x32_0_0).toLoadRect (harg6.unread x5)) (arg7.view.readAt (Elt F) (Rect.unit (s := S16x32) ![0, 0] S16x32.size inb_S16x32_S16x32_0_0).toLoadRect (harg7.unread x6)) (arg8.view.readAt (Elt F) (Rect.unit (s := S16x32) ![0, 0] S16x32.size inb_S16x32_S16x32_0_0).toLoadRect (harg8.unread x7)) (arg9.view.readAt (Elt F) (Rect.unit (s := S1x32) ![0, 0] S1x32.size inb_S1x32_S1x32_0_0).toLoadRect (harg9.unread x8))) [] rfl).trans ?_
  rw [View.writes_nil, harg19.read_unread]
  rw [whole_read harg1 x0, whole_read harg2 x1, whole_read harg3 x2, whole_read harg4 x3, whole_read harg5 x4, whole_read harg6 x5, whole_read harg7 x6, whole_read harg8 x7, whole_read harg9 x8]
  rfl

/-- The sums after the last point. -/
theorem stC (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs0 : Vec F S112x4096 .f32) (xs1 : Vec F S16x8 .f32) (f : arg20.view.ty.Contents (Elt F)) :
    arg20.view.read (Elt F) (arg20.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 xs1).2.2.1) = addSums xs1 x1 x2 x4 x6 x7 x8 := by
  refine (View.read_writes_full arg20.view f inb_S16x8_S16x8_0_0
    (addSums (arg20.view.readAt (Elt F) (Rect.unit (s := S16x8) ![0, 0] S16x8.size inb_S16x8_S16x8_0_0).toLoadRect (harg20.unread xs1)) (arg2.view.readAt (Elt F) (Rect.unit (s := S4x512) ![0, 0] S4x512.size inb_S4x512_S4x512_0_0).toLoadRect (harg2.unread x1)) (arg3.view.readAt (Elt F) (Rect.unit (s := S4x200x512) ![0, 0, 0] S4x200x512.size inb_S4x200x512_S4x200x512_0_0_0).toLoadRect (harg3.unread x2)) (arg5.view.readAt (Elt F) (Rect.unit (s := S16x32) ![0, 0] S16x32.size inb_S16x32_S16x32_0_0).toLoadRect (harg5.unread x4)) (arg7.view.readAt (Elt F) (Rect.unit (s := S16x32) ![0, 0] S16x32.size inb_S16x32_S16x32_0_0).toLoadRect (harg7.unread x6)) (arg8.view.readAt (Elt F) (Rect.unit (s := S16x32) ![0, 0] S16x32.size inb_S16x32_S16x32_0_0).toLoadRect (harg8.unread x7)) (arg9.view.readAt (Elt F) (Rect.unit (s := S1x32) ![0, 0] S1x32.size inb_S1x32_S1x32_0_0).toLoadRect (harg9.unread x8))) []).trans ?_
  rw [whole_read harg2 x1, whole_read harg3 x2, whole_read harg5 x4, whole_read harg7 x6, whole_read harg8 x7, whole_read harg9 x8, whole_read harg20 xs1]

/-- The output after the last point. -/
theorem outC (c : Dev nD) (i : grid0.Coords) (arg1 : Memref sig .tc .vmem S3x512 .i32) (harg1 : arg1.IsWhole) (arg2 : Memref sig .tc .vmem S4x512 .i32) (harg2 : arg2.IsWhole) (arg3 : Memref sig .tc .vmem S4x200x512 .i32) (harg3 : arg3.IsWhole) (arg4 : Memref sig .tc .vmem S16x32 .f32) (harg4 : arg4.IsWhole) (arg5 : Memref sig .tc .vmem S16x32 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S1x32 .f32) (harg9 : arg9.IsWhole) (arg10 : Memref sig .tc .vmem S4x16 .f32) (harg10 : arg10.IsWhole) (arg11 : Memref sig .tc .vmem S4x16 .f32) (harg11 : arg11.IsWhole) (arg12 : Memref sig .tc .vmem S64x112 .f32) (harg12 : arg12.IsWhole) (arg13 : Memref sig .tc .vmem S64x1 .f32) (harg13 : arg13.IsWhole) (arg14 : Memref sig .tc .vmem S32x64 .f32) (harg14 : arg14.IsWhole) (arg15 : Memref sig .tc .vmem S32x1 .f32) (harg15 : arg15.IsWhole) (arg16 : Memref sig .tc .vmem S1x32 .f32) (harg16 : arg16.IsWhole) (arg17 : Memref sig .tc .vmem S1x1 .f32) (harg17 : arg17.IsWhole) (arg18 : Memref sig .tc .vmem S1x4096 .f32) (harg18 : arg18.IsWhole) (arg19 : Memref sig .tc .vmem S112x4096 .f32) (harg19 : arg19.IsWhole) (arg20 : Memref sig .tc .vmem S16x8 .f32) (harg20 : arg20.IsWhole) (hc0 : ¬cond0_0 i) (hc1 : cond0_1 i)
    (x0 : Vec F S3x512 .i32) (x1 : Vec F S4x512 .i32) (x2 : Vec F S4x200x512 .i32) (x3 : Vec F S16x32 .f32) (x4 : Vec F S16x32 .f32) (x5 : Vec F S16x32 .f32) (x6 : Vec F S16x32 .f32) (x7 : Vec F S16x32 .f32) (x8 : Vec F S1x32 .f32) (x9 : Vec F S4x16 .f32) (x10 : Vec F S4x16 .f32) (x11 : Vec F S64x112 .f32) (x12 : Vec F S64x1 .f32) (x13 : Vec F S32x64 .f32) (x14 : Vec F S32x1 .f32) (x15 : Vec F S1x32 .f32) (x16 : Vec F S1x1 .f32) (xs0 : Vec F S112x4096 .f32) (xs1 : Vec F S16x8 .f32) (f : arg18.view.ty.Contents (Elt F)) :
    arg18.view.read (Elt F) (arg18.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 xs1).1) = mlp x9 x10 x11 x12 x13 x14 x15 x16 (putTile i xs0 (tile x0 x1 x2 x3 x4 x5 x6 x7 x8)) (addSums xs1 x1 x2 x4 x6 x7 x8) := by
  refine (View.read_writes_full arg18.view f inb_S1x4096_S1x4096_0_0
    (mlp (arg10.view.readAt (Elt F) (Rect.unit (s := S4x16) ![0, 0] S4x16.size inb_S4x16_S4x16_0_0).toLoadRect (harg10.unread x9)) (arg11.view.readAt (Elt F) (Rect.unit (s := S4x16) ![0, 0] S4x16.size inb_S4x16_S4x16_0_0).toLoadRect (harg11.unread x10)) (arg12.view.readAt (Elt F) (Rect.unit (s := S64x112) ![0, 0] S64x112.size inb_S64x112_S64x112_0_0).toLoadRect (harg12.unread x11)) (arg13.view.readAt (Elt F) (Rect.unit (s := S64x1) ![0, 0] S64x1.size inb_S64x1_S64x1_0_0).toLoadRect (harg13.unread x12)) (arg14.view.readAt (Elt F) (Rect.unit (s := S32x64) ![0, 0] S32x64.size inb_S32x64_S32x64_0_0).toLoadRect (harg14.unread x13)) (arg15.view.readAt (Elt F) (Rect.unit (s := S32x1) ![0, 0] S32x1.size inb_S32x1_S32x1_0_0).toLoadRect (harg15.unread x14)) (arg16.view.readAt (Elt F) (Rect.unit (s := S1x32) ![0, 0] S1x32.size inb_S1x32_S1x32_0_0).toLoadRect (harg16.unread x15)) (arg17.view.readAt (Elt F) (Rect.unit (s := S1x1) ![0, 0] S1x1.size inb_S1x1_S1x1_0_0).toLoadRect (harg17.unread x16)) (arg19.view.readAt (Elt F) (Rect.unit (s := S112x4096) ![0, 0] S112x4096.size inb_S112x4096_S112x4096_0_0).toLoadRect (arg19.view.writes (Elt F) (harg19.unread xs0) [(⟨(Rect.unit (s := S112x4096) (k0_off1 i) S112x512.size (k0_off1_inb i)), tile (arg1.view.readAt (Elt F) (Rect.unit (s := S3x512) ![0, 0] S3x512.size inb_S3x512_S3x512_0_0).toLoadRect (harg1.unread x0)) (arg2.view.readAt (Elt F) (Rect.unit (s := S4x512) ![0, 0] S4x512.size inb_S4x512_S4x512_0_0).toLoadRect (harg2.unread x1)) (arg3.view.readAt (Elt F) (Rect.unit (s := S4x200x512) ![0, 0, 0] S4x200x512.size inb_S4x200x512_S4x200x512_0_0_0).toLoadRect (harg3.unread x2)) (arg4.view.readAt (Elt F) (Rect.unit (s := S16x32) ![0, 0] S16x32.size inb_S16x32_S16x32_0_0).toLoadRect (harg4.unread x3)) (arg5.view.readAt (Elt F) (Rect.unit (s := S16x32) ![0, 0] S16x32.size inb_S16x32_S16x32_0_0).toLoadRect (harg5.unread x4)) (arg6.view.readAt (Elt F) (Rect.unit (s := S16x32) ![0, 0] S16x32.size inb_S16x32_S16x32_0_0).toLoadRect (harg6.unread x5)) (arg7.view.readAt (Elt F) (Rect.unit (s := S16x32) ![0, 0] S16x32.size inb_S16x32_S16x32_0_0).toLoadRect (harg7.unread x6)) (arg8.view.readAt (Elt F) (Rect.unit (s := S16x32) ![0, 0] S16x32.size inb_S16x32_S16x32_0_0).toLoadRect (harg8.unread x7)) (arg9.view.readAt (Elt F) (Rect.unit (s := S1x32) ![0, 0] S1x32.size inb_S1x32_S1x32_0_0).toLoadRect (harg9.unread x8))⟩ : View.Piece (Elt F) S112x4096 .f32)])) (arg20.view.readCov [(⟨(Rect.unit (s := S16x8) ![0, 0] S16x8.size inb_S16x8_S16x8_0_0), addSums (arg20.view.readAt (Elt F) (Rect.unit (s := S16x8) ![0, 0] S16x8.size inb_S16x8_S16x8_0_0).toLoadRect (harg20.unread xs1)) (arg2.view.readAt (Elt F) (Rect.unit (s := S4x512) ![0, 0] S4x512.size inb_S4x512_S4x512_0_0).toLoadRect (harg2.unread x1)) (arg3.view.readAt (Elt F) (Rect.unit (s := S4x200x512) ![0, 0, 0] S4x200x512.size inb_S4x200x512_S4x200x512_0_0_0).toLoadRect (harg3.unread x2)) (arg5.view.readAt (Elt F) (Rect.unit (s := S16x32) ![0, 0] S16x32.size inb_S16x32_S16x32_0_0).toLoadRect (harg5.unread x4)) (arg7.view.readAt (Elt F) (Rect.unit (s := S16x32) ![0, 0] S16x32.size inb_S16x32_S16x32_0_0).toLoadRect (harg7.unread x6)) (arg8.view.readAt (Elt F) (Rect.unit (s := S16x32) ![0, 0] S16x32.size inb_S16x32_S16x32_0_0).toLoadRect (harg8.unread x7)) (arg9.view.readAt (Elt F) (Rect.unit (s := S1x32) ![0, 0] S1x32.size inb_S1x32_S1x32_0_0).toLoadRect (harg9.unread x8))⟩ : View.Piece (Elt F) S16x8 .f32)] (Rect.unit (s := S16x8) ![0, 0] S16x8.size inb_S16x8_S16x8_0_0).toLoadRect)) []).trans ?_
  rw [whole_read harg10 x9, whole_read harg11 x10, whole_read harg12 x11, whole_read harg13 x12, whole_read harg14 x13, whole_read harg15 x14, whole_read harg16 x15, whole_read harg17 x16, View.readCov_full, whole_read harg2 x1, whole_read harg3 x2, whole_read harg5 x4, whole_read harg7 x6, whole_read harg8 x7, whole_read harg9 x8, whole_read harg20 xs1, View.readAt_full]
  rw [View.read_writes_cons_put arg19.view (harg19.unread xs0) (off' := k0_off1 i) (size := S112x512.size) (k0_off1_inb i) _ [] rfl, View.writes_nil, harg19.read_unread, whole_read harg1 x0, whole_read harg4 x3, whole_read harg6 x5]
  rfl

end Cert.KernelIdeal.Body

end
-- ==== Proof.KFrame.lean ====
/- The kernel's run over the grid: the scratch of all columns filled block by block, the sums carried from the first
   block to the last, the output written at the last point; then the launch, and what every final state holds. -/
module

public import proofs.«01_k».proof.Proof.KPieces
public import proofs.«01_k».proof.Proof.Gen.KernelIdeal.Frame
public import Idealize.ShloMosaic.Lib.ValueIdx
public import Idealize.ShloMosaic.Lib.Pipeline.FrameSuffix
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each buffer holds -/

/-- The grid has eight points. -/
theorem points : cfg0.N = 8 := N_0

/-- The block of columns of point `t`. -/
def tileAt (c : Dev nD) (t : Fin cfg0.N) : FVec F S112x512 .f32 :=
  tile (iblk m c 0 t) (iblk m c 1 t) (iblk m c 2 t) (iblk m c 3 t) (iblk m c 4 t) (iblk m c 5 t) (iblk m c 6 t) (iblk m c 7 t) (iblk m c 8 t)

/-- The point of a column. -/
def pointOf (b : Fin 4096) : Fin cfg0.N := ⟨b.val / 512, by rw [points]; omega⟩

/-- All columns: column `b` is column `b mod 512` of block `b / 512`. -/
def allCols (c : Dev nD) : Vec F S112x4096 .f32 := fun y =>
  tileAt m c (pointOf (y 1)) (ix2 (y 0) ⟨(y 1).val % 512, Nat.mod_lt _ (by decide)⟩)

/-- The sums of block `t` added to `s`. -/
def addAt (c : Dev nD) (s : FVec F S16x8 .f32) (t : Fin cfg0.N) : FVec F S16x8 .f32 :=
  addSums s (iblk m c 1 t) (iblk m c 2 t) (iblk m c 4 t) (iblk m c 6 t) (iblk m c 7 t) (iblk m c 8 t)

/-- The sums after point `n`: those of blocks `0` to `n`, added in order. -/
def sumsAt (c : Dev nD) : (n : ℕ) → n < cfg0.N → FVec F S16x8 .f32
  | 0, h => addAt m c noSums ⟨0, h⟩
  | n + 1, h => addAt m c (sumsAt c n (Nat.lt_of_succ_lt h)) ⟨n + 1, h⟩

/-- The output the layers give from all columns and the sums after point `t`. -/
def outAt (c : Dev nD) (t : Fin cfg0.N) : Vec F S1x4096 .f32 :=
  mlp (iblk m c 9 t) (iblk m c 10 t) (iblk m c 11 t) (iblk m c 12 t) (iblk m c 13 t) (iblk m c 14 t) (iblk m c 15 t) (iblk m c 16 t) (allCols m c) (sumsAt m c t.val t.isLt)

/-- Point `t` stores its block from column `512 t` on. -/
theorem off_at : ∀ t : Fin cfg0.N, k0_off1 (grid0.coords t) = ![0, 512 * t.val] := by decide +kernel

/-- If the columns of the earlier points are in place, storing block `t` puts those of point `t` in place too. -/
theorem put_step (c : Dev nD) (t : Fin cfg0.N) (X : Vec F S112x4096 .f32)
    (h : ∀ y : S112x4096.Idx, (y 1).val < 512 * t.val → X y = allCols m c y) :
    ∀ y : S112x4096.Idx, (y 1).val < 512 * (t.val + 1) → putTile (grid0.coords t) X (tileAt m c t) y = allCols m c y := by
  intro y hy
  unfold putTile VecWindow.put
  have e0 : k0_off1 (grid0.coords t) 0 = 0 := congrFun (off_at t) 0
  have e1 : k0_off1 (grid0.coords t) 1 = 512 * t.val := congrFun (off_at t) 1
  by_cases hlt : (y 1).val < 512 * t.val
  · rw [dif_neg]
    · exact h y hlt
    · intro hall
      have := (hall 1).1
      omega
  · have h0 : (y 0).val < 112 := (y 0).isLt
    have hall : ∀ a, k0_off1 (grid0.coords t) a ≤ (y a).val ∧ (y a).val < k0_off1 (grid0.coords t) a + S112x512.size a := by
      intro a
      match a with
      | ⟨0, _⟩ => exact ⟨by rw [show k0_off1 (grid0.coords t) ⟨0, _⟩ = 0 from e0]; exact Nat.zero_le _, by rw [show k0_off1 (grid0.coords t) ⟨0, _⟩ = 0 from e0, Nat.zero_add]; exact h0⟩
      | ⟨1, _⟩ =>
        refine ⟨?_, ?_⟩
        · rw [show k0_off1 (grid0.coords t) ⟨1, _⟩ = 512 * t.val from e1]; exact Nat.not_lt.mp hlt
        · rw [show k0_off1 (grid0.coords t) ⟨1, _⟩ = 512 * t.val from e1]
          show (y 1).val < 512 * t.val + 512
          omega
    rw [dif_pos hall]
    unfold allCols
    have ep : pointOf (y 1) = t := Fin.ext (by show (y 1).val / 512 = t.val; omega)
    rw [ep]
    refine congrArg (tileAt m c t) (funext fun a => Fin.ext ?_)
    rw [Rect.unitLocal_val]
    match a with
    | ⟨0, _⟩ =>
      rw [show k0_off1 (grid0.coords t) ⟨0, _⟩ = 0 from e0]
      rfl
    | ⟨1, _⟩ =>
      rw [show k0_off1 (grid0.coords t) ⟨1, _⟩ = 512 * t.val from e1]
      show (y 1).val - 512 * t.val = (y 1).val % 512
      omega

/-- The sums after a point are the block's added to those before it. -/
theorem sums_step (c : Dev nD) (t : Fin cfg0.N) (k : ℕ) (hk : t.val = k + 1) (h : k < cfg0.N) :
    sumsAt m c t.val t.isLt = addAt m c (sumsAt m c k h) t := by
  obtain ⟨n, hn⟩ := t
  dsimp only at hk
  subst hk
  rfl

/-- After the first point the sums are the block's over zero. -/
theorem sums_first (c : Dev nD) (t : Fin cfg0.N) (h0 : t.val = 0) :
    sumsAt m c t.val t.isLt = addAt m c noSums t := by
  obtain ⟨n, hn⟩ := t
  dsimp only at h0
  subst h0
  rfl

/-! ## The proof data -/

/-- What holds of the two scratch buffers before position `n`: the columns of the earlier points are in place, and from
    the second point on the sums are those after the point before. -/
def Held (c : Dev nD) (n : ℕ) (X : Vec F S112x4096 .f32) (S : Vec F S16x8 .f32) : Prop :=
  (∀ y : S112x4096.Idx, (y 1).val < 512 * n → X y = allCols m c y) ∧ ∀ k (h : k < cfg0.N), n = k + 1 → S = sumsAt m c k h

/-- The invariant before position `n`: the two scratch buffers at contents of which `Held` is true, and the generator
    register at some state. -/
def PhiS (c : Dev nD) (n : ℕ) : sProp 𝕄 :=
  iprop(∃ X S, ⌜Held m c n X S⌝ ∗ (owns (c : Thread nD τ) scM0_0 fullShare X ∗ owns (c : Thread nD τ) scM0_1 fullShare S) ∗ (∃ r, prngReg c r))

/-- The proof data of the pipeline: the inputs' buffers hold their blocks, the output's the layers' result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨_ + 18, h⟩ => absurd h (Nat.not_lt.2 (Nat.le_add_left _ _))
  Φ t := PhiS m c t.val
  q _ := fullShare
  owed _ := 0

/-- The arrays are the contents the region finds. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = outAt m c t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body returns of each input's buffer: its block. -/
theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by unfold Dat.leavesExact; rw [liveAt0_5 t], after0_5]
theorem leaves0_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by unfold Dat.leavesExact; rw [liveAt0_6 t], after0_6]
theorem leaves0_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by unfold Dat.leavesExact; rw [liveAt0_7 t], after0_7]
theorem leaves0_8 (c : Dev nD) (t : Fin cfg0.N) : (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by unfold Dat.leavesExact; rw [liveAt0_8 t], after0_8]
theorem leaves0_9 (c : Dev nD) (t : Fin cfg0.N) : (dats m 0 c).leavesExact 9 t = owns (c : Thread nD τ) (ms0_9 t) fullShare (iblk m c 9 t) := by
  rw [show (dats m 0 c).leavesExact 9 t = owns (c : Thread nD τ) (ms0_9 t) fullShare ((dats m 0 c).after 9 t) from by unfold Dat.leavesExact; rw [liveAt0_9 t], after0_9]
theorem leaves0_10 (c : Dev nD) (t : Fin cfg0.N) : (dats m 0 c).leavesExact 10 t = owns (c : Thread nD τ) (ms0_10 t) fullShare (iblk m c 10 t) := by
  rw [show (dats m 0 c).leavesExact 10 t = owns (c : Thread nD τ) (ms0_10 t) fullShare ((dats m 0 c).after 10 t) from by unfold Dat.leavesExact; rw [liveAt0_10 t], after0_10]
theorem leaves0_11 (c : Dev nD) (t : Fin cfg0.N) : (dats m 0 c).leavesExact 11 t = owns (c : Thread nD τ) (ms0_11 t) fullShare (iblk m c 11 t) := by
  rw [show (dats m 0 c).leavesExact 11 t = owns (c : Thread nD τ) (ms0_11 t) fullShare ((dats m 0 c).after 11 t) from by unfold Dat.leavesExact; rw [liveAt0_11 t], after0_11]
theorem leaves0_12 (c : Dev nD) (t : Fin cfg0.N) : (dats m 0 c).leavesExact 12 t = owns (c : Thread nD τ) (ms0_12 t) fullShare (iblk m c 12 t) := by
  rw [show (dats m 0 c).leavesExact 12 t = owns (c : Thread nD τ) (ms0_12 t) fullShare ((dats m 0 c).after 12 t) from by unfold Dat.leavesExact; rw [liveAt0_12 t], after0_12]
theorem leaves0_13 (c : Dev nD) (t : Fin cfg0.N) : (dats m 0 c).leavesExact 13 t = owns (c : Thread nD τ) (ms0_13 t) fullShare (iblk m c 13 t) := by
  rw [show (dats m 0 c).leavesExact 13 t = owns (c : Thread nD τ) (ms0_13 t) fullShare ((dats m 0 c).after 13 t) from by unfold Dat.leavesExact; rw [liveAt0_13 t], after0_13]
theorem leaves0_14 (c : Dev nD) (t : Fin cfg0.N) : (dats m 0 c).leavesExact 14 t = owns (c : Thread nD τ) (ms0_14 t) fullShare (iblk m c 14 t) := by
  rw [show (dats m 0 c).leavesExact 14 t = owns (c : Thread nD τ) (ms0_14 t) fullShare ((dats m 0 c).after 14 t) from by unfold Dat.leavesExact; rw [liveAt0_14 t], after0_14]
theorem leaves0_15 (c : Dev nD) (t : Fin cfg0.N) : (dats m 0 c).leavesExact 15 t = owns (c : Thread nD τ) (ms0_15 t) fullShare (iblk m c 15 t) := by
  rw [show (dats m 0 c).leavesExact 15 t = owns (c : Thread nD τ) (ms0_15 t) fullShare ((dats m 0 c).after 15 t) from by unfold Dat.leavesExact; rw [liveAt0_15 t], after0_15]
theorem leaves0_16 (c : Dev nD) (t : Fin cfg0.N) : (dats m 0 c).leavesExact 16 t = owns (c : Thread nD τ) (ms0_16 t) fullShare (iblk m c 16 t) := by
  rw [show (dats m 0 c).leavesExact 16 t = owns (c : Thread nD τ) (ms0_16 t) fullShare ((dats m 0 c).after 16 t) from by unfold Dat.leavesExact; rw [liveAt0_16 t], after0_16]

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 4000000 in
/-- The body at the first point. -/
theorem bodyA (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, leaves0_0, leaves0_1, leaves0_2, leaves0_3, leaves0_4, leaves0_5, leaves0_6, leaves0_7, leaves0_8, leaves0_9, leaves0_10, leaves0_11, leaves0_12, leaves0_13, leaves0_14, leaves0_15, leaves0_16]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 8 := lt_of_lt_of_eq t.isLt points
  rw [Dat.leavesExact_idle (dats m 0 c) 17 t (idleAt0_17_A t ((hcond0_0 t).mpr h0) (fun h => h1 ((hcond0_1 t).mp h))) (noFlush0_17_A t ((hcond0_0 t).mpr h0) (fun h => h1 ((hcond0_1 t).mp h)))]
  unfold PhiS
  iintro ⟨⟨%X, %S, %hXS, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runA c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)).2.2.2 _ X Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexists _; iexact HS1
  iintro ⟨H0, H1, H2, H3, H4, H5, H6, H7, H8, H9, H10, H11, H12, H13, H14, H15, H16, H17, HS0, ⟨%es1, HS1⟩⟩
  isplitl [HS0 HS1 Hg]
  · iexists (putTile (grid0.coords t) X (tileAt m c t)), (sumsAt m c t.val t.isLt)
    isplitr
    · ipureintro
      exact ⟨put_step m c t X hXS.1, fun k h hk => by
        have e : t.val = k := by omega
        subst e
        rfl⟩
    isplitl [HS0 HS1]
    · isplitl [HS0]
      · unfold owns; iexists _; isplitr
        swap; · iexact HS0
        ipureintro; exact totA c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) X
      unfold owns; iexists _; isplitr
      swap; · iexact HS1
      ipureintro
      exact (stA c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) X es1).trans (sums_first m c t (by omega)).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _; iexact H17

set_option maxHeartbeats 4000000 in
/-- The body at a middle point. -/
theorem bodyB (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, leaves0_0, leaves0_1, leaves0_2, leaves0_3, leaves0_4, leaves0_5, leaves0_6, leaves0_7, leaves0_8, leaves0_9, leaves0_10, leaves0_11, leaves0_12, leaves0_13, leaves0_14, leaves0_15, leaves0_16]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 8 := lt_of_lt_of_eq t.isLt points
  rw [Dat.leavesExact_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
  unfold PhiS
  iintro ⟨⟨%X, %S, %hXS, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runB c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) S).2.2.2 _ X Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  iintro ⟨H0, H1, H2, H3, H4, H5, H6, H7, H8, H9, H10, H11, H12, H13, H14, H15, H16, H17, HS0, ⟨%es1, HS1⟩⟩
  isplitl [HS0 HS1 Hg]
  · iexists (putTile (grid0.coords t) X (tileAt m c t)), (sumsAt m c t.val t.isLt)
    isplitr
    · ipureintro
      exact ⟨put_step m c t X hXS.1, fun k h hk => by
        have e : t.val = k := by omega
        subst e
        rfl⟩
    isplitl [HS0 HS1]
    · isplitl [HS0]
      · unfold owns; iexists _; isplitr
        swap; · iexact HS0
        ipureintro; exact totB c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) X S
      unfold owns; iexists _; isplitr
      swap; · iexact HS1
      ipureintro
      exact (stB c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) X S es1).trans ((congrArg (fun s => addAt m c s t) (hXS.2 (t.val - 1) (by exact lt_of_lt_of_eq (by omega : t.val - 1 < 8) points.symm) (by omega))).trans (sums_step m c t (t.val - 1) (by omega) (lt_of_lt_of_eq (by omega : t.val - 1 < 8) points.symm)).symm)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _; iexact H17

set_option maxHeartbeats 4000000 in
/-- The body at the last point. -/
theorem bodyC (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, leaves0_0, leaves0_1, leaves0_2, leaves0_3, leaves0_4, leaves0_5, leaves0_6, leaves0_7, leaves0_8, leaves0_9, leaves0_10, leaves0_11, leaves0_12, leaves0_13, leaves0_14, leaves0_15, leaves0_16]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 8 := lt_of_lt_of_eq t.isLt points
  rw [show (dats m 0 c).leavesExact 17 t = owns (c : Thread nD τ) (ms0_17 t) fullShare ((dats m 0 c).after 17 t) from by unfold Dat.leavesExact; rw [liveAt0_17_C t (fun h => h0 ((hcond0_0 t).mp h)) ((hcond0_1 t).mpr h1)], after0_17]
  unfold PhiS
  iintro ⟨⟨%X, %S, %hXS, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runC c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) X S).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS0]; · iexact HS0
  isplitl [HS1]; · iexact HS1
  iintro ⟨H0, H1, H2, H3, H4, H5, H6, H7, H8, H9, H10, H11, H12, H13, H14, H15, H16, ⟨%e17, H17⟩, HS0, ⟨%es1, HS1⟩⟩
  isplitl [HS0 HS1 Hg]
  · iexists (putTile (grid0.coords t) X (tileAt m c t)), (sumsAt m c t.val t.isLt)
    isplitr
    · ipureintro
      exact ⟨put_step m c t X hXS.1, fun k h hk => by
        have e : t.val = k := by omega
        subst e
        rfl⟩
    isplitl [HS0 HS1]
    · isplitl [HS0]
      · unfold owns; iexists _; isplitr
        swap; · iexact HS0
        ipureintro; exact totC c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) X S
      unfold owns; iexists _; isplitr
      swap; · iexact HS1
      ipureintro
      exact (stC c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) X S es1).trans ((congrArg (fun s => addAt m c s t) (hXS.2 (t.val - 1) (by exact lt_of_lt_of_eq (by omega : t.val - 1 < 8) points.symm) (by omega))).trans (sums_step m c t (t.val - 1) (by omega) (lt_of_lt_of_eq (by omega : t.val - 1 < 8) points.symm)).symm)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  unfold owns; iexists _; isplitr
  swap; · iexact H17
  ipureintro
  refine (outC c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) X S e17).trans ?_
  unfold outAt
  have eX : putTile (grid0.coords t) X (tileAt m c t) = allCols m c := funext fun y => put_step m c t X hXS.1 y (by
    have hy : (y 1).val < 4096 := (y 1).isLt
    omega)
  have eS : addAt m c S t = sumsAt m c t.val t.isLt := ((congrArg (fun s => addAt m c s t) (hXS.2 (t.val - 1) (by exact lt_of_lt_of_eq (by omega : t.val - 1 < 8) points.symm) (by omega))).trans (sums_step m c t (t.val - 1) (by omega) (lt_of_lt_of_eq (by omega : t.val - 1 < 8) points.symm)).symm)
  exact congrArg₂ (mlp (iblk m c 9 t) (iblk m c 10 t) (iblk m c 11 t) (iblk m c 12 t) (iblk m c 13 t) (iblk m c 14 t) (iblk m c 15 t) (iblk m c 16 t)) eX eS

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact bodyA m c t h0 (by omega)
  · by_cases h1 : t.val % 8 = 7
    · exact bodyC m c t h0 h1
    · exact bodyB m c t h0 h1

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the scratch. -/
theorem held_zero (c : Dev nD) (X : Vec F S112x4096 .f32) (S : Vec F S16x8 .f32) : Held m c 0 X S :=
  ⟨fun y h => absurd h (by omega), fun k h hk => absurd hk (by omega)⟩

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%X, HS0⟩, ⟨%S, HS1⟩⟩, Hg⟩
  iexists X, S
  isplitr
  · ipureintro; exact held_zero m c X S
  isplitl [HS0 HS1]
  · isplitl [HS0]; · iexact HS0
    iexact HS1
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%X, %S, %hXS, ⟨HS0, HS1⟩, Hg⟩
  isplitl [HS0 HS1]
  · isplitl [HS0]
    · iexists _; iexact HS0
    iexists _; iexact HS1
  iexact Hg

/-! ## The launch -/

-- the launch theorem's implicit arguments are found by unifying its conclusion with this one
set_option backward.isDefEq.respectTransparency.types false in
/-- Every execution ends with every array at what the proof data give, after the host lines that follow, and every
    counter at zero. -/
theorem run_counters : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_counters m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- The frame: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_counters m ρ))

end Cert.KernelIdeal.Body

end
-- ==== Proof.Counts.lean ====
/- The counts of a field's rows, read at an index: where the entries of a column are the words of the rows `r l`, the
   count at row `g` is the number of positions `l` whose row is `g`. -/
module

public import proofs.«01_k».proof.Proof.Tile
public import Idealize.ShloMosaic.Lib.Pointwise
public import Idealize.ShloMosaic.Lib.PackedFields
public import Idealize.ShloMosaic.Lib.WordSum
public import Idealize.ShloMosaic.PureOps.Ideal.Laws

@[expose] public section

set_option maxRecDepth 16384

noncomputable section

namespace Cert.KernelIdeal.Body

open Cert.KernelIdeal.Gen
open Idealize.ShloMosaic Idealize.ShloMosaic.TcCoe
open PackedFields (field)

/-- A row's number within its group of four, times eight. -/
theorem shift_word (v : Fin 32) :
    IntOp.shli ArithUnit.vector (IntOp.andi (BitVec.ofNat 32 v.val) 3#32) 3#32 = BitVec.ofNat 32 (8 * (v.val % 4)) := by
  revert v; decide

/-- A row's group of four. -/
theorem group_word (v : Fin 32) :
    IntOp.shrsi ArithUnit.vector (BitVec.ofNat 32 v.val) 2#32 = BitVec.ofNat 32 (v.val / 4) := by
  revert v; decide

/-- The word of a small number, as an extended real. -/
theorem sitofp_small (n : ℕ) (h : n < 2 ^ 31) : (FloatOps.sitofp FTy.f32 (BitVec.ofNat 32 n) : Ideal .f32) = ((n : ℝ) : EReal) := by
  show (((BitVec.ofNat 32 n).toInt : ℝ) : EReal) = _
  have h2 : (BitVec.ofNat 32 n).toInt = n := by
    rw [BitVec.toInt_eq_toNat_cond, BitVec.toNat_ofNat, Nat.mod_eq_of_lt (by omega)]
    rw [if_pos (by omega)]
  rw [h2]; norm_cast

/-- The weight of a row is a one in its byte. -/
theorem weight_word (v : Fin 32) :
    FloatOps.fptosi 32 (FloatOps.exp2 (FloatOps.sitofp FTy.f32 (BitVec.ofNat 32 (8 * (v.val % 4))) : Ideal .f32)) = BitVec.ofNat 32 (1 <<< (8 * (v.val % 4))) := by
  rw [sitofp_small _ (by omega)]
  show Ideal.fptosi 32 (Ideal.exp2 _) = _
  rw [Ideal.exp2_coe]
  have hp : Real.rpow 2 ((8 * (v.val % 4) : ℕ) : ℝ) = ((2 ^ (8 * (v.val % 4)) : ℕ) : ℝ) := by
    show (2 : ℝ) ^ (((8 * (v.val % 4) : ℕ)) : ℝ) = _
    rw [Real.rpow_natCast]; push_cast; rfl
  rw [hp]
  unfold Ideal.fptosi
  have hc : ∀ n : ℕ, n < 2 ^ 31 → Ideal.toIntClamped (-(2 ^ (32 - 1) : Nat)) ((2 ^ (32 - 1) : Nat) - 1) (((n : ℕ) : ℝ) : EReal) = n := by
    intro n hn
    show max _ (min _ (if (0 : ℝ) ≤ (n : ℝ) then ⌊(n : ℝ)⌋ else ⌈(n : ℝ)⌉)) = _
    rw [if_pos (by positivity), Int.floor_natCast]
    omega
  have hlt : 2 ^ (8 * (v.val % 4)) < 2 ^ 31 := Nat.pow_lt_pow_right (by decide) (by omega)
  rw [hc _ hlt, Nat.one_shiftLeft]
  rfl

/-- Bytes of a sum are the sums of the bytes, while these stay below 256. -/
theorem field_sum {ι : Type} (S : Finset ι) (f : ι → ℕ) (i : ℕ) (h : ∀ k ≤ i, ∑ l ∈ S, field 8 k (f l) < 2 ^ 8) :
    field 8 i (∑ l ∈ S, f l) = ∑ l ∈ S, field 8 i (f l) := by
  induction S using Finset.cons_induction generalizing i with
  | empty => simp [field]
  | cons a S ha ih =>
    have h' : ∀ k ≤ i, field 8 k (∑ l ∈ S, f l) = ∑ l ∈ S, field 8 k (f l) := fun k hk =>
      ih k fun k' hk' => by have := h k' (hk'.trans hk); rw [Finset.sum_cons] at this; omega
    rw [Finset.sum_cons, Finset.sum_cons, PackedFields.field_add, h' i le_rfl]
    intro k hk
    rw [h' k hk]
    have := h k hk; rwa [Finset.sum_cons] at this

/-- The number of positions at row `g`. -/
def count (r : Fin 200 → Fin 32) (g : Fin 32) : ℕ := (Finset.univ.filter fun l => r l = g).card

theorem count_le (r : Fin 200 → Fin 32) (g : Fin 32) : count r g ≤ 200 := by
  unfold count; exact (Finset.card_filter_le _ _).trans (by simp)

/-- What a position adds to the word of group `k`. -/
def part (k : ℕ) (v : Fin 32) : ℕ := if v.val / 4 = k then 1 <<< (8 * (v.val % 4)) else 0

theorem part_le (k : ℕ) (v : Fin 32) : part k v ≤ 2 ^ 24 := by
  unfold part; split
  · rw [Nat.one_shiftLeft]; exact Nat.pow_le_pow_right (by decide) (by omega)
  · omega

theorem parts_lt (r : Fin 200 → Fin 32) (k : ℕ) : ∑ l, part k (r l) < 2 ^ 32 := by
  calc ∑ l, part k (r l) ≤ ∑ _l : Fin 200, 2 ^ 24 := Finset.sum_le_sum fun l _ => part_le k (r l)
    _ < 2 ^ 32 := by simp

/-- Byte `i` of the word of group `k` is the count of row `4k + i`. -/
theorem byte_parts (r : Fin 200 → Fin 32) (k i : ℕ) (hk : k < 8) (hi : i < 4) :
    field 8 i (∑ l, part k (r l)) = count r ⟨4 * k + i, by omega⟩ := by
  have key : ∀ j, (hj : j < 4) → ∑ l, field 8 j (part k (r l)) = count r ⟨4 * k + j, by omega⟩ := by
    intro j hj
    have : ∀ l, field 8 j (part k (r l)) = if r l = ⟨4 * k + j, by omega⟩ then 1 else 0 := by
      intro l
      unfold part
      rw [PackedFields.field_oneHot_nat 8 4 k (r l).val j (by decide) (by decide) hj]
      simp only [Fin.ext_iff]
    simp only [this, count, Finset.card_filter]
  rw [field_sum _ _ _ fun j hj => by rw [key j (by omega)]; exact lt_of_le_of_lt (count_le _ _) (by decide), key i hi]

/-- The weights as numbers. -/
theorem weightOf_apply (e : IVec S200x512 32) (l : Fin 200) (b : Fin 512) (v : Fin 32) (h : e (ix2 l b) = BitVec.ofNat 32 v.val) :
    weightOf (F := Ideal) e (ix2 l b) = BitVec.ofNat 32 (1 <<< (8 * (v.val % 4))) := by
  pointwise [weightOf]
  rw [h, shift_word, weight_word]

/-- The word of a group is the sum of what the positions add to it. -/
theorem word_toNat (e : IVec S200x512 32) (b : Fin 512) (r : Fin 200 → Fin 32) (h : ∀ l, e (ix2 l b) = BitVec.ofNat 32 (r l).val)
    (k : ℕ) (hk : k < 8) :
    (word (weightOf (F := Ideal) e) (shrsi e (broadcast S200x512 2#32)) (BitVec.ofNat 32 k) (ix2 0 b)).toNat = ∑ l, part k (r l) := by
  have hs : ∀ l : Fin 200, (select (cmpi .eq (shrsi e (broadcast S200x512 2#32)) (broadcast S200x512 (BitVec.ofNat 32 k)))
      (weightOf (F := Ideal) e) (broadcast S200x512 0#32) (ix2 l b)).toNat = part k (r l) := by
    intro l
    show (Scalar.select (IntOp.cmpi .eq (IntOp.shrsi ArithUnit.vector (e (ix2 l b)) 2#32) (BitVec.ofNat 32 k)) (weightOf (F := Ideal) e (ix2 l b)) 0#32).toNat = _
    rw [weightOf_apply e l b (r l) (h l), h l, group_word]
    unfold part
    by_cases hg : (r l).val / 4 = k
    · rw [if_pos hg, hg]
      have : IntOp.cmpi .eq (BitVec.ofNat 32 k) (BitVec.ofNat 32 k) = 1#1 := by simp [IntOp.cmpi]
      rw [this]
      show (BitVec.ofNat 32 _).toNat = _
      rw [BitVec.toNat_ofNat, Nat.mod_eq_of_lt]
      rw [Nat.one_shiftLeft]; exact Nat.pow_lt_pow_right (by decide) (by omega)
    · rw [if_neg hg]
      have hne : BitVec.ofNat 32 ((r l).val / 4) ≠ BitVec.ofNat 32 k := by
        intro hh
        have := congrArg BitVec.toNat hh
        rw [BitVec.toNat_ofNat, BitVec.toNat_ofNat, Nat.mod_eq_of_lt (by omega), Nat.mod_eq_of_lt (by omega)] at this
        exact hg this
      have : IntOp.cmpi .eq (BitVec.ofNat 32 ((r l).val / 4)) (BitVec.ofNat 32 k) = 0#1 := by
        show BitVec.ofBool (BitVec.ofNat 32 ((r l).val / 4) == BitVec.ofNat 32 k) = 0#1
        rw [beq_eq_false_iff_ne.mpr hne]; rfl
      rw [this]
      rfl
  have hcast : word (weightOf (F := Ideal) e) (shrsi e (broadcast S200x512 2#32)) (BitVec.ofNat 32 k) (ix2 0 b)
      = multiReductionI .add [0] S512 (select (cmpi .eq (shrsi e (broadcast S200x512 2#32)) (broadcast S200x512 (BitVec.ofNat 32 k)))
          (weightOf (F := Ideal) e) (broadcast S200x512 0#32)) 0#32 reduces_S200x512_S512 rfl (ix1 b) := by
    unfold word
    generalize multiReductionI _ _ _ _ _ _ _ = z
    pointwise
  have hsum : ∑ i ∈ Finset.univ.filter (fun i => reduces_S200x512_S512.drop i = ix1 b),
      (select (cmpi .eq (shrsi e (broadcast S200x512 2#32)) (broadcast S200x512 (BitVec.ofNat 32 k)))
          (weightOf (F := Ideal) e) (broadcast S200x512 0#32) i).toNat = ∑ l, part k (r l) := by
    rw [Shape.Reduces.sum_filter_drop_single]
    refine Finset.sum_congr rfl fun l _ => ?_
    have hl : reduces_S200x512_S512.lift (ix1 b) l = ix2 l b := by
      funext a
      apply Fin.ext
      rw [Shape.Reduces.lift_val]
      fin_cases a <;> simp [Shape.Reduces.liftVal, ix2, ix1]
    rw [hl]
    exact hs l
  rw [hcast]
  exact (WordSum.toNat_multiReductionI_add _ _ _ _ (by rw [hsum]; exact parts_lt r k)).trans hsum

/-- Row `g` of the counts is byte `g mod 4` of the word of group `g / 4`. -/
theorem countRows_apply (w h : IVec S200x512 32) (g : Fin 32) (b : Fin 512) :
    countRows w h (ix2 g b) = byteRow (word w h (BitVec.ofNat 32 (g.val / 4))) (BitVec.ofNat 32 (8 * (g.val % 4))) (ix2 0 b) := by
  have e : countRows w h = concatenate S32x512 0 (List.ofFn fun n : Fin 32 => (⟨S1x512, byteRow (word w h (BitVec.ofNat 32 (n.val / 4))) (BitVec.ofNat 32 (8 * (n.val % 4)))⟩ : (s : Shape) × (s.Idx → BitVec 32)))
      concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S32x512_d0 := rfl
  rw [e]
  refine concatenate_ofFn_unit_apply (t := S32x512) (s₁ := S1x512) 0 (fun n : Fin 32 => byteRow (word w h (BitVec.ofNat 32 (n.val / 4))) (BitVec.ofNat 32 (8 * (n.val % 4)))) _ rfl rfl (ix2 g b) g rfl (ix2 0 b) ?_
  intro a ha
  fin_cases a
  · exact absurd rfl ha
  · rfl

/-- The counts of a column are the counts of its rows. -/
theorem countsOf_apply (e : IVec S200x512 32) (b : Fin 512) (r : Fin 200 → Fin 32) (h : ∀ l, e (ix2 l b) = BitVec.ofNat 32 (r l).val)
    (g : Fin 32) : countsOf (F := Ideal) e (ix2 g b) = ((count r g : ℝ) : EReal) := by
  show FloatOps.sitofp FTy.f32 (countRows (weightOf (F := Ideal) e) (shrsi e (broadcast S200x512 2#32)) (ix2 g b)) = _
  have hw : countRows (weightOf (F := Ideal) e) (shrsi e (broadcast S200x512 2#32)) (ix2 g b) = BitVec.ofNat 32 (count r g) := by
    rw [countRows_apply]
    show IntOp.andi (IntOp.shrui ArithUnit.vector (word _ _ _ (ix2 0 b)) (BitVec.ofNat 32 (8 * (g.val % 4)))) 255#32 = _
    apply BitVec.eq_of_toNat_eq
    have hf := byte_parts r (g.val / 4) (g.val % 4) (by omega) (by omega)
    rw [show (⟨4 * (g.val / 4) + g.val % 4, by omega⟩ : Fin 32) = g from Fin.ext (Nat.div_add_mod _ _)] at hf
    have hc : (BitVec.ofNat 32 (count r g)).toNat = count r g := by
      rw [BitVec.toNat_ofNat, Nat.mod_eq_of_lt (by have := count_le r g; omega)]
    rw [hc, ← hf, ← word_toNat e b r h (g.val / 4) (by omega)]
    generalize word _ _ _ (ix2 0 b) = x
    have hm : (BitVec.ofNat 32 (8 * (g.val % 4))).toNat = 8 * (g.val % 4) := by
      rw [BitVec.toNat_ofNat]; omega
    unfold IntOp.andi IntOp.shrui
    rw [if_pos (by rw [hm]; omega)]
    rw [BitVec.toNat_and, BitVec.ushiftRight_eq', BitVec.toNat_ushiftRight, hm]
    show _ &&& (2 ^ 8 - 1) = _
    rw [Nat.and_two_pow_sub_one_eq_mod]
    rfl
  rw [hw, sitofp_small _ (by have := count_le r g; omega)]

end Cert.KernelIdeal.Body

end
-- ==== Proof.Spec.lean ====
/- The mathematics both programs compute, on numbers: the rows looked up, the four pooled fields over real tables, their
   normalisation over the batch, and the three layers. -/
module

public import Idealize.ShloMosaic.PureOps.Ideal.Laws
public import Idealize.ShloMosaic.Lib.IdealHost
public import Mathlib.Tactic.Ring
public import Mathlib.Tactic.FieldSimp
public import Mathlib.Tactic.Positivity
public import Mathlib.Tactic.Linarith
public import Mathlib.Analysis.SpecialFunctions.Exp

@[expose] public section

noncomputable section

namespace Cert.Spec

open Idealize.ShloMosaic

/-- The 32 rows of a table of sixteen columns: 30 of the table, the last two zero. -/
abbrev Tab := Fin 32 → Fin 16 → ℝ

/-- The rows named by the 200 positions of one multi-valued field. -/
abbrev Rows := Fin 200 → Fin 32

/-- The squared norm of a row. -/
def norm2 (G : Tab) (g : Fin 32) : ℝ := ∑ d, G g d * G g d

theorem norm2_nonneg (G : Tab) (g : Fin 32) : 0 ≤ norm2 G g := Finset.sum_nonneg fun d _ => mul_self_nonneg _

/-- A position of the greatest norm. -/
theorem exists_best (G : Tab) (r : Rows) : ∃ l, ∀ l', norm2 G (r l') ≤ norm2 G (r l) := Finite.exists_max fun l => norm2 G (r l)

/-- A row of the greatest norm among those named. -/
def best (G : Tab) (r : Rows) : Fin 32 := r (Classical.choose (exists_best G r))

/-- Where rows of equal norm are equal, every row of the greatest norm is the one named by `best`. -/
theorem best_eq (G : Tab) (hG : ∀ g h, norm2 G g = norm2 G h → ∀ d, G g d = G h d) (r : Rows) (l : Fin 200)
    (h : ∀ l', norm2 G (r l') ≤ norm2 G (r l)) (d : Fin 16) : G (r l) d = G (best G r) d :=
  hG _ _ (le_antisymm (Classical.choose_spec (exists_best G r) l) (h _)) d

/-- The first pooled field: the sum of the rows. -/
def sumPool (G : Tab) (r : Rows) (d : Fin 16) : ℝ := ∑ l, G (r l) d
/-- The second: their mean over all positions. -/
def meanPool (M : Tab) (r : Rows) (d : Fin 16) : ℝ := (∑ l, M (r l) d) * (1 / 200)
/-- The third: the row of the greatest norm. -/
def maxPool (G : Tab) (r : Rows) (d : Fin 16) : ℝ := G (best G r) d
/-- The fourth: the rows weighted by the softmax of their attention. -/
def attPool (T : Tab) (A : Fin 32 → ℝ) (r : Rows) (d : Fin 16) : ℝ :=
  (∑ l, T (r l) d * Real.exp (A (r l))) / ∑ l, Real.exp (A (r l))

/-- The four pooled fields of one column. -/
def pooled (G M T : Tab) (A : Fin 32 → ℝ) (r : Fin 4 → Rows) : Fin 4 → Fin 16 → ℝ
  | 0 => sumPool G (r 0)
  | 1 => meanPool M (r 1)
  | 2 => maxPool G (r 2)
  | 3 => attPool T A (r 3)

/-- The mean over the batch, -/
def mean (p : Fin 4096 → ℝ) : ℝ := (∑ b, p b) / 4096
/-- the variance over the batch, -/
def var (p : Fin 4096 → ℝ) : ℝ := (∑ b, (p b - mean p) * (p b - mean p)) / 4096
/-- the number added to it: the single-precision number nearest 0.00001, -/
def eps : ℝ := 10995116 / 1099511627776
/-- and the normalised field, its offset any extended real. -/
def normed (gam : ℝ) (bt : EReal) (p : Fin 4096 → ℝ) (b : Fin 4096) : EReal :=
  ((gam * (p b - mean p) / Real.sqrt (var p + eps) : ℝ) : EReal) + bt

theorem eps_pos : 0 < eps := by unfold eps; norm_num

theorem var_nonneg (p : Fin 4096 → ℝ) : 0 ≤ var p :=
  div_nonneg (Finset.sum_nonneg fun b _ => mul_self_nonneg _) (by norm_num)

/-- The variance is the mean of the squares less the square of the mean. -/
theorem var_eq (p : Fin 4096 → ℝ) : var p = (∑ b, p b * p b) * (1 / 4096) - mean p * mean p := by
  unfold var
  have h : ∀ b, (p b - mean p) * (p b - mean p) = p b * p b - 2 * mean p * p b + mean p * mean p := fun b => by ring
  simp only [h, Finset.sum_add_distrib, Finset.sum_sub_distrib, ← Finset.mul_sum]
  have hm : ∑ b, p b = 4096 * mean p := by unfold mean; field_simp
  rw [hm]
  simp only [Finset.sum_const, Finset.card_univ, Fintype.card_fin, nsmul_eq_mul]
  push_cast
  ring

/-- The 112 rows: three looked-up rows of sixteen, then the four pooled fields, normalised. -/
def total (s : Fin 48 → Fin 4096 → EReal) (gam : Fin 4 → Fin 16 → ℝ) (bt : Fin 4 → Fin 16 → EReal) (P : Fin 4 → Fin 4096 → Fin 16 → ℝ)
    (k : Fin 112) (b : Fin 4096) : EReal :=
  if h : k.val < 48 then s ⟨k.val, h⟩ b
  else normed (gam ⟨(k.val - 48) / 16, by omega⟩ ⟨(k.val - 48) % 16, by omega⟩) (bt ⟨(k.val - 48) / 16, by omega⟩ ⟨(k.val - 48) % 16, by omega⟩)
    (fun b => P ⟨(k.val - 48) / 16, by omega⟩ b ⟨(k.val - 48) % 16, by omega⟩) b

/-- The first two layers and the third with the logistic function. -/
def layers (w1 : Fin 64 → Fin 112 → EReal) (b1 : Fin 64 → EReal) (w2 : Fin 32 → Fin 64 → EReal) (b2 : Fin 32 → EReal)
    (w3 : Fin 32 → EReal) (b3 : EReal) (x : Fin 112 → EReal) : EReal :=
  Ideal.logistic (∑ i, w3 i * max (∑ j, w2 i j * max (∑ k, w1 j k * x k + b1 j) 0 + b2 i) 0 + b3)

/-! ### Reals among the extended reals -/

/-- A sum of reals. -/
theorem coe_sum {ι : Type} (S : Finset ι) (f : ι → ℝ) : ∑ i ∈ S, (f i : EReal) = ((∑ i ∈ S, f i : ℝ) : EReal) := by
  induction S using Finset.cons_induction with
  | empty => simp
  | cons a S ha ih => rw [Finset.sum_cons, Finset.sum_cons, ih, EReal.coe_add]

/-- A quotient of reals. -/
theorem div_reals (x y : ℝ) (hy : y ≠ 0) : Ideal.div (x : EReal) (y : EReal) = ((x / y : ℝ) : EReal) := by
  rw [Ideal.div_coe hy, ← EReal.coe_mul, mul_one_div]

/-- The reciprocal square root of a positive real. -/
theorem rsqrt_pos {x : ℝ} (hx : 0 < x) : Ideal.rsqrt (x : EReal) = ((Real.sqrt x)⁻¹ : ℝ) := by
  show (if x < 0 then (⊥ : EReal) else if x = 0 then ⊤ else ((Real.sqrt x)⁻¹ : ℝ)) = _
  rw [if_neg (not_lt.2 hx.le), if_neg hx.ne']

/-- The square root of a positive real. -/
theorem sqrt_pos' {x : ℝ} (hx : 0 < x) : Ideal.sqrt (x : EReal) = (Real.sqrt x : ℝ) := by
  show (if x < 0 then (⊥ : EReal) else (Real.sqrt x : EReal)) = _
  rw [if_neg (not_lt.2 hx.le)]

/-- The pattern of `eps`. -/
theorem ofBits_eps : Ideal.ofBits .f32 0x3727C5AC#32 = (eps : EReal) := by
  simp [Ideal.ofBits, Ideal.ieee, eps, -EReal.coe_mul, -EReal.coe_neg]; norm_num
/-- The pattern of 4096. -/
theorem ofBits_4096 : Ideal.ofBits .f32 0x45800000#32 = ((4096 : ℝ) : EReal) := by
  simp [Ideal.ofBits, Ideal.ieee, -EReal.coe_mul, -EReal.coe_neg]; norm_num
/-- The pattern of 1/4096. -/
theorem ofBits_inv4096 : Ideal.ofBits .f32 0x39800000#32 = ((1 / 4096 : ℝ) : EReal) := by
  simp [Ideal.ofBits, Ideal.ieee, -EReal.coe_mul, -EReal.coe_neg]; norm_num
/-- The pattern of 200. -/
theorem ofBits_200 : Ideal.ofBits .f32 0x43480000#32 = ((200 : ℝ) : EReal) := by
  simp [Ideal.ofBits, Ideal.ieee, -EReal.coe_mul, -EReal.coe_neg]; norm_num
/-- The pattern of -1. -/
theorem ofBits_neg1 : Ideal.ofBits .f32 0xBF800000#32 = ((-1 : ℝ) : EReal) := by
  simp [Ideal.ofBits, Ideal.ieee, -EReal.coe_mul, -EReal.coe_neg]; norm_num
/-- The pattern of -∞. -/
theorem ofBits_ninf : Ideal.ofBits .f32 0xFF800000#32 = ⊥ := by
  simp [Ideal.ofBits, Ideal.ieee]

end Cert.Spec

end
-- ==== Proof.Pools.lean ====
/- The pooled fields of one block, read at an index: over real tables and the counts of the rows `r l` of a column, each
   is the number of the specification. -/
module

public import proofs.«01_k».proof.Proof.Counts
public import proofs.«01_k».proof.Proof.Spec

@[expose] public section

set_option maxRecDepth 16384

noncomputable section

namespace Cert.KernelIdeal.Body

open Cert.KernelIdeal.Gen Cert.Spec
open Idealize.ShloMosaic Idealize.ShloMosaic.TcCoe

/-- A sum over the rows, each as often as it is counted, is the sum over the positions. -/
theorem sum_count (r : Rows) (f : Fin 32 → ℝ) : ∑ g, f g * (count r g : ℝ) = ∑ l, f (r l) := by
  have h : ∀ g, f g * (count r g : ℝ) = ∑ l ∈ Finset.univ.filter (fun l => r l = g), f (r l) := by
    intro g
    rw [Finset.sum_congr rfl (g := fun _ => f g) (fun l hl => by rw [(Finset.mem_filter.1 hl).2])]
    rw [Finset.sum_const, nsmul_eq_mul, mul_comm, count]
  simp only [h]
  exact Finset.sum_fiberwise Finset.univ r fun l => f (r l)

/-- A product with a table, read at an index. -/
theorem times_apply (tab : FVec Ideal S16x32 .f32) (c : FVec Ideal S32x512 .f32) (d : Fin 16) (b : Fin 512) :
    times tab c (ix2 d b) = ∑ g : Fin 32, tab (ix2 d g) * c (ix2 g b) := by
  pointwise [times]

/-- Over a real table and the counts of a column, it is the sum over the positions. -/
theorem times_counts (tab : FVec Ideal S16x32 .f32) (c : FVec Ideal S32x512 .f32) (r : Rows) (d : Fin 16) (b : Fin 512) (f : Fin 32 → ℝ)
    (htab : ∀ g, tab (ix2 d g) = (f g : EReal)) (hc : ∀ g, c (ix2 g b) = ((count r g : ℝ) : EReal)) :
    times tab c (ix2 d b) = ((∑ l, f (r l) : ℝ) : EReal) := by
  rw [times_apply, ← sum_count, ← coe_sum]
  exact Finset.sum_congr rfl fun g _ => by rw [htab, hc, EReal.coe_mul]

/-- A product with the indicator of one row is that row's entry. -/
theorem sum_indicator (f : Fin 32 → EReal) (w : Fin 32 → EReal) (x : Fin 32) (hw : ∀ g, w g = if g = x then 1 else 0) :
    ∑ g, f g * w g = f x := by
  simp only [hw, mul_ite, mul_one, mul_zero]
  rw [Finset.sum_ite_eq' Finset.univ x, if_pos (Finset.mem_univ _)]

/-- The comparison of two row numbers, as an extended real. -/
theorem indicator_word (g x : Fin 32) :
    (FloatOps.sitofp FTy.f32 (BitVec.setWidth 32 (IntOp.cmpi .eq (BitVec.ofNat 32 g.val) (BitVec.ofNat 32 x.val))) : Ideal .f32) = if g = x then 1 else 0 := by
  have h : BitVec.setWidth 32 (IntOp.cmpi .eq (BitVec.ofNat 32 g.val) (BitVec.ofNat 32 x.val)) = BitVec.ofNat 32 (if g = x then 1 else 0) := by
    revert g x; decide
  rw [h, sitofp_small _ (by split <;> decide)]
  split <;> simp

/-- The norms of the rows present, `-1` at the others. -/
theorem presentNorm_apply (tab : FVec Ideal S16x32 .f32) (c : FVec Ideal S32x512 .f32) (G : Tab) (r : Rows) (b : Fin 512)
    (htab : ∀ d g, tab (ix2 d g) = (G g d : EReal)) (hc : ∀ g, c (ix2 g b) = ((count r g : ℝ) : EReal)) (g : Fin 32) :
    presentNorm tab c (ix2 g b) = ((if 0 < count r g then norm2 G g else -1 : ℝ) : EReal) := by
  pointwise [presentNorm]
  rw [hc, ofBits_neg1]
  simp only [htab, ← EReal.coe_mul, coe_sum]
  have : ((0 : EReal) < ((count r g : ℝ) : EReal)) ↔ 0 < count r g := by
    rw [← EReal.coe_zero, EReal.coe_lt_coe_iff]; exact Nat.cast_pos
  by_cases h : 0 < count r g
  · rw [if_pos (this.2 h), if_pos h]; rfl
  · rw [if_neg (fun h' => h (this.1 h')), if_neg h]

/-- The marks at the greatest of a column. -/
theorem isMax_apply (n : FVec Ideal S32x512 .f32) (g : Fin 32) (b : Fin 512) :
    isMax n (ix2 g b) = BitVec.ofBool (decide (n (ix2 g b) = Finset.univ.fold max (⊥ : EReal) fun x : Fin 32 => n (ix2 x b))) := by
  pointwise [isMax]
  rw [ofBits_ninf]

/-- The smallest of the marked rows. -/
theorem firstRow_apply (m : IVec S32x512 1) (b : Fin 512) :
    firstRow m (ix2 0 b) = Finset.univ.fold IntOp.minsi 2147483647#32 fun x : Fin 32 => Scalar.select (m (ix2 x b)) (BitVec.ofNat 32 x.val) 32#32 := by
  pointwise [firstRow]

/-- The least of a family of small numbers, one of them below the bound the others are given, is one of those below it. -/
theorem fold_minsi {n : ℕ} (hn : n < 2 ^ 31) (p : Fin n → Bool) (x₀ : Fin n) (h₀ : p x₀ = true) :
    ∃ x : Fin n, p x = true ∧
      Finset.univ.fold IntOp.minsi 2147483647#32 (fun x : Fin n => Scalar.select (BitVec.ofBool (p x)) (BitVec.ofNat 32 x.val) (BitVec.ofNat 32 n)) = BitVec.ofNat 32 x.val := by
  set f : Fin n → BitVec 32 := fun x => Scalar.select (BitVec.ofBool (p x)) (BitVec.ofNat 32 x.val) (BitVec.ofNat 32 n) with hf
  have small : ∀ k : ℕ, k < 2 ^ 31 → (BitVec.ofNat 32 k).toInt = k := by
    intro k hk
    rw [BitVec.toInt_eq_toNat_cond, BitVec.toNat_ofNat, Nat.mod_eq_of_lt (by omega), if_pos (by omega)]
  have fT : ∀ x, p x = true → f x = BitVec.ofNat 32 x.val := fun x hx => by simp only [hf, hx]; rfl
  have fF : ∀ x, p x = false → f x = BitVec.ofNat 32 n := fun x hx => by simp only [hf, hx]; rfl
  have hmin : ∀ a b : BitVec 32, IntOp.minsi a b = if a.slt b then a else b := fun _ _ => rfl
  have hle : ∀ S : Finset (Fin n), ∀ x ∈ S, (S.fold IntOp.minsi 2147483647#32 f).toInt ≤ (f x).toInt := by
    intro S
    induction S using Finset.cons_induction with
    | empty => intro x hx; simp at hx
    | cons a S ha ih =>
      intro x hx
      rw [Finset.fold_cons, hmin]
      rcases Finset.mem_cons.1 hx with h | h
      · subst h; split
        · exact le_rfl
        · next h => have := BitVec.slt_iff_toInt_lt.not.1 h; omega
      · have := ih x h; split
        · next h => have := BitVec.slt_iff_toInt_lt.1 h; omega
        · exact this
  have hor : ∀ S : Finset (Fin n), S.fold IntOp.minsi 2147483647#32 f = 2147483647#32 ∨ ∃ x, S.fold IntOp.minsi 2147483647#32 f = f x := by
    intro S
    induction S using Finset.cons_induction with
    | empty => left; rfl
    | cons a S ha ih =>
      rw [Finset.fold_cons, hmin]
      split
      · exact .inr ⟨a, rfl⟩
      · exact ih
  have hx0 := hle Finset.univ x₀ (Finset.mem_univ _)
  rw [fT x₀ h₀, small _ (by omega)] at hx0
  rcases hor Finset.univ with h | ⟨x, h⟩
  · rw [h] at hx0
    have : (2147483647#32 : BitVec 32).toInt = 2147483647 := by decide
    omega
  · rcases hp : p x with _ | _
    · rw [h, fF x hp, small _ hn] at hx0; omega
    · exact ⟨x, hp, h.trans (fT x hp)⟩

/-- The greatest of a family of reals is attained, and no value is greater. -/
theorem fold_max_real {n : ℕ} (x₁ : Fin n) (f : Fin n → ℝ) :
    ∃ x₀, (Finset.univ.fold max (⊥ : EReal) fun x : Fin n => (f x : EReal)) = f x₀ ∧ ∀ x, f x ≤ f x₀ := by
  haveI : Nonempty (Fin n) := ⟨x₁⟩
  obtain ⟨x₀, h⟩ := Finite.exists_max f
  refine ⟨x₀, le_antisymm ?_ ?_, h⟩
  · exact (Finset.fold_max_le _).2 ⟨bot_le, fun x _ => EReal.coe_le_coe_iff.2 (h x)⟩
  · exact (Finset.le_fold_max _).2 (.inr ⟨x₀, Finset.mem_univ _, le_rfl⟩)

/-- The third pooled field. -/
theorem chosen_apply (tab : FVec Ideal S16x32 .f32) (c : FVec Ideal S32x512 .f32) (G : Tab) (r : Rows) (b : Fin 512)
    (htab : ∀ d g, tab (ix2 d g) = (G g d : EReal)) (hc : ∀ g, c (ix2 g b) = ((count r g : ℝ) : EReal))
    (hG : ∀ g h, norm2 G g = norm2 G h → ∀ d, G g d = G h d) (d : Fin 16) :
    chosen tab c (ix2 d b) = (maxPool G r d : EReal) := by
  set n : Fin 32 → ℝ := fun g => if 0 < count r g then norm2 G g else -1 with hn
  obtain ⟨x₀, hmax, hle⟩ := fold_max_real 0 n
  have hm : ∀ g, isMax (presentNorm tab c) (ix2 g b) = BitVec.ofBool (decide ((n g : EReal) = n x₀)) := by
    intro g
    rw [isMax_apply]
    simp only [presentNorm_apply tab c G r b htab hc]
    rw [← hmax]
  obtain ⟨x, hx, hfold⟩ := fold_minsi (n := 32) (by decide) (fun g => decide ((n g : EReal) = n x₀)) x₀ (by simp)
  have hf : firstRow (isMax (presentNorm tab c)) (ix2 0 b) = BitVec.ofNat 32 x.val := by
    rw [firstRow_apply]
    simp only [hm]
    exact hfold
  have hx' : n x = n x₀ := EReal.coe_eq_coe_iff.1 (of_decide_eq_true hx)
  have hpos : ∀ l, 0 < count r (r l) := fun l => Finset.card_pos.2 ⟨l, Finset.mem_filter.2 ⟨Finset.mem_univ _, rfl⟩⟩
  have hnx : ∀ l, norm2 G (r l) ≤ n x := by
    intro l
    have := hle (r l)
    rw [← hx'] at this
    simpa only [hn, if_pos (hpos l)] using this
  have hcx : 0 < count r x := by
    by_contra h
    have h1 := hnx 0
    have h2 := norm2_nonneg G (r 0)
    simp only [hn, if_neg h] at h1
    linarith
  obtain ⟨l, hl⟩ := Finset.card_pos.1 hcx
  have hl := (Finset.mem_filter.1 hl).2
  have hbest : G x d = G (best G r) d := by
    rw [← hl]
    refine best_eq G hG r l (fun l' => ?_) d
    have := hnx l'
    simp only [hn, if_pos hcx] at this
    rwa [hl]
  unfold chosen
  rw [times_apply, sum_indicator (fun g => tab (ix2 d g)) _ x]
  · rw [htab, hbest]; rfl
  · intro g
    rw [← indicator_word]
    rw [← hf]
    generalize firstRow (isMax (presentNorm tab c)) = z
    pointwise

/-- The fourth pooled field. -/
theorem attended_apply (tab : FVec Ideal S16x32 .f32) (at_ : FVec Ideal S1x32 .f32) (c : FVec Ideal S32x512 .f32) (T : Tab) (A : Fin 32 → ℝ)
    (r : Rows) (b : Fin 512) (htab : ∀ d g, tab (ix2 d g) = (T g d : EReal)) (hat : ∀ g, at_ (ix2 0 g) = (A g : EReal))
    (hc : ∀ g, c (ix2 g b) = ((count r g : ℝ) : EReal)) (d : Fin 16) :
    attended tab at_ c (ix2 d b) = (attPool T A r d : EReal) := by
  pointwise [attended, times]
  have he : ∀ g, Ideal.exp (at_ (ix2 0 g)) = (Real.exp (A g) : EReal) := fun g => by rw [hat]; rfl
  simp only [htab, he, hc, ofBits_200, ← EReal.coe_mul, coe_sum]
  have h1 : ∑ g, (count r g : ℝ) = 200 := by
    have := sum_count r fun _ => 1
    simpa using this
  have h2 : ∑ g, (count r g : ℝ) * Real.exp (A g) = ∑ l, Real.exp (A (r l)) := by
    rw [← sum_count r fun g => Real.exp (A g)]; exact Finset.sum_congr rfl fun g _ => mul_comm _ _
  rw [h1, h2, ← EReal.coe_sub, ← EReal.coe_add, sum_count r fun g => T g d * Real.exp (A g), div_reals]
  · norm_num [attPool]
  · have : 0 < ∑ l, Real.exp (A (r l)) := Finset.sum_pos (fun l _ => Real.exp_pos _) ⟨0, Finset.mem_univ _⟩
    linarith

end Cert.KernelIdeal.Body

end
-- ==== Proof.Args.lean ====
/- The arguments of both programs, what is asked of them, and the value both compute from them. -/
module

public import proofs.«01_k».proof.Proof.Spec
public import Idealize.ShloMosaic.Lib.Pointwise

@[expose] public section

noncomputable section

namespace Cert.Spec

open Idealize.ShloMosaic

/-- The nineteen arguments, floats as extended reals. -/
structure Args where
  /-- The words of the three single-valued fields, -/
  single : (⟨2, ![3, 4096]⟩ : Shape).Idx → BitVec 32
  /-- of the four many-valued fields, -/
  multi : (⟨3, ![4, 4096, 200]⟩ : Shape).Idx → BitVec 32
  /-- and the number of positions that count in each. -/
  mask : (⟨2, ![4, 4096]⟩ : Shape).Idx → BitVec 32
  /-- The table of users, -/
  user : (⟨2, ![139000, 16]⟩ : Shape).Idx → EReal
  /-- of movies, -/
  movie : (⟨2, ![132000, 16]⟩ : Shape).Idx → EReal
  /-- of years, -/
  year : (⟨2, ![150, 16]⟩ : Shape).Idx → EReal
  /-- of genres, -/
  genre : (⟨2, ![30, 16]⟩ : Shape).Idx → EReal
  /-- of tags. -/
  tag : (⟨2, ![41000, 16]⟩ : Shape).Idx → EReal
  /-- The attention of each tag. -/
  attTag : (⟨2, ![41000, 1]⟩ : Shape).Idx → EReal
  /-- The scales of the normalisation, -/
  gamma : (⟨2, ![4, 16]⟩ : Shape).Idx → EReal
  /-- and its offsets. -/
  beta : (⟨2, ![4, 16]⟩ : Shape).Idx → EReal
  /-- The first layer's weights, -/
  W1 : (⟨2, ![112, 64]⟩ : Shape).Idx → EReal
  /-- and offsets; -/
  b1 : (⟨1, ![64]⟩ : Shape).Idx → EReal
  /-- the second's weights, -/
  W2 : (⟨2, ![64, 32]⟩ : Shape).Idx → EReal
  /-- and offsets; -/
  b2 : (⟨1, ![32]⟩ : Shape).Idx → EReal
  /-- the third's weights, -/
  W3 : (⟨2, ![32, 1]⟩ : Shape).Idx → EReal
  /-- and offset. -/
  b3 : (⟨1, ![1]⟩ : Shape).Idx → EReal

namespace Args

variable (a : Args)

/-- A row index among the first 30 as one of a longer table. -/
def up {n : ℕ} (h : 30 ≤ n) (g : Fin 30) : Fin n := Fin.castLE h g

/-- What is asked of the arguments: every word names one of the first 30 rows, the rows pooled and the scales are
    finite, and genre rows of equal norm are equal. -/
structure Good : Prop where
  /-- Words of single-valued fields. -/
  single : ∀ i b, (a.single (ix2 i b)).toNat < 30
  /-- Words of many-valued fields. -/
  multi : ∀ i b l, (a.multi (ix3 i b l)).toNat < 30
  /-- Movie rows are finite, -/
  movie : ∀ (g : Fin 30) d, ∃ x : ℝ, a.movie (ix2 (up (by decide) g) d) = x
  /-- genre rows, -/
  genre : ∀ (g : Fin 30) d, ∃ x : ℝ, a.genre (ix2 g d) = x
  /-- tag rows, -/
  tag : ∀ (g : Fin 30) d, ∃ x : ℝ, a.tag (ix2 (up (by decide) g) d) = x
  /-- the attention of tags, -/
  attTag : ∀ g : Fin 30, ∃ x : ℝ, a.attTag (ix2 (up (by decide) g) 0) = x
  /-- and the scales. -/
  gamma : ∀ i d, ∃ x : ℝ, a.gamma (ix2 i d) = x
  /-- Genre rows of equal norm are equal. -/
  rows : ∀ g h : Fin 30, ∑ d, a.genre (ix2 g d) * a.genre (ix2 g d) = ∑ d, a.genre (ix2 h d) * a.genre (ix2 h d) →
    ∀ d, a.genre (ix2 g d) = a.genre (ix2 h d)

/-- The first 30 rows of a table as reals, and zero rows after them. -/
def tabOf (f : Fin 30 → Fin 16 → EReal) : Tab := fun g d => if h : g.val < 30 then (f ⟨g.val, h⟩ d).toReal else 0

/-- The table of genres, -/
def G : Tab := tabOf fun g d => a.genre (ix2 g d)
/-- of movies, -/
def M : Tab := tabOf fun g d => a.movie (ix2 (up (by decide) g) d)
/-- of tags, -/
def T : Tab := tabOf fun g d => a.tag (ix2 (up (by decide) g) d)
/-- and the attention of the tags. -/
def A : Fin 32 → ℝ := fun g => if h : g.val < 30 then (a.attTag (ix2 (up (by decide) ⟨g.val, h⟩) 0)).toReal else 0

/-- The row a word names. -/
def row (x : BitVec 32) : Fin 30 := ⟨x.toNat % 30, Nat.mod_lt _ (by decide)⟩

/-- Whether position `l` of field `i` counts in column `b`. -/
def live (i : Fin 4) (b : Fin 4096) (l : Fin 200) : Bool := (BitVec.ofNat 32 l.val).slt (a.mask (ix2 i b))

/-- The rows of field `i` in column `b`: the last row, a zero row, at a position that does not count. -/
def rows (b : Fin 4096) (i : Fin 4) : Rows := fun l =>
  if a.live i b l then ⟨(row (a.multi (ix3 i b l))).val, by omega⟩ else 31

/-- The pooled fields. -/
def P (i : Fin 4) (b : Fin 4096) (d : Fin 16) : ℝ := pooled a.G a.M a.T a.A (a.rows b) i d

/-- The rows of the single-valued fields, one after the other. -/
def s (k : Fin 48) (b : Fin 4096) : EReal :=
  if h : k.val < 16 then a.user (ix2 (up (by decide) (row (a.single (ix2 0 b)))) ⟨k.val, h⟩)
  else if h' : k.val - 16 < 16 then a.movie (ix2 (up (by decide) (row (a.single (ix2 1 b)))) ⟨k.val - 16, h'⟩)
  else a.year (ix2 (up (by decide) (row (a.single (ix2 2 b)))) ⟨k.val - 16 - 16, by omega⟩)

/-- The 112 numbers of a column. -/
def x (b : Fin 4096) (k : Fin 112) : EReal :=
  total a.s (fun i d => (a.gamma (ix2 i d)).toReal) (fun i d => a.beta (ix2 i d)) a.P k b

/-- The result at column `b`. -/
def out (b : Fin 4096) : EReal :=
  layers (fun j k => a.W1 (ix2 k j)) (fun j => a.b1 (ix1 j)) (fun i j => a.W2 (ix2 j i)) (fun i => a.b2 (ix1 i))
    (fun i => a.W3 (ix2 i 0)) (a.b3 (ix1 0)) (a.x b)

variable {a}

theorem Good.genre_eq (h : a.Good) (g : Fin 32) (hg : g.val < 30) (d : Fin 16) : a.genre (ix2 ⟨g.val, hg⟩ d) = (a.G g d : EReal) := by
  obtain ⟨x, hx⟩ := h.genre ⟨g.val, hg⟩ d
  simp only [G, tabOf, dif_pos hg, hx, EReal.toReal_coe]

theorem Good.movie_eq (h : a.Good) (g : Fin 32) (hg : g.val < 30) (d : Fin 16) : a.movie (ix2 (up (by decide) ⟨g.val, hg⟩) d) = (a.M g d : EReal) := by
  obtain ⟨x, hx⟩ := h.movie ⟨g.val, hg⟩ d
  simp only [M, tabOf, dif_pos hg, hx, EReal.toReal_coe]

theorem Good.tag_eq (h : a.Good) (g : Fin 32) (hg : g.val < 30) (d : Fin 16) : a.tag (ix2 (up (by decide) ⟨g.val, hg⟩) d) = (a.T g d : EReal) := by
  obtain ⟨x, hx⟩ := h.tag ⟨g.val, hg⟩ d
  simp only [T, tabOf, dif_pos hg, hx, EReal.toReal_coe]

theorem Good.attTag_eq (h : a.Good) (g : Fin 32) (hg : g.val < 30) : a.attTag (ix2 (up (by decide) ⟨g.val, hg⟩) 0) = (a.A g : EReal) := by
  obtain ⟨x, hx⟩ := h.attTag ⟨g.val, hg⟩
  simp only [A, dif_pos hg, hx, EReal.toReal_coe]

theorem Good.gamma_eq (h : a.Good) (i : Fin 4) (d : Fin 16) : a.gamma (ix2 i d) = ((a.gamma (ix2 i d)).toReal : EReal) := by
  obtain ⟨x, hx⟩ := h.gamma i d
  rw [hx, EReal.toReal_coe]

/-- Past the first 30 rows the tables are zero. -/
theorem G_zero (g : Fin 32) (hg : ¬ g.val < 30) (d : Fin 16) : a.G g d = 0 := by simp only [G, tabOf, dif_neg hg]
theorem M_zero (g : Fin 32) (hg : ¬ g.val < 30) (d : Fin 16) : a.M g d = 0 := by simp only [M, tabOf, dif_neg hg]
theorem T_zero (g : Fin 32) (hg : ¬ g.val < 30) (d : Fin 16) : a.T g d = 0 := by simp only [T, tabOf, dif_neg hg]
theorem A_zero (g : Fin 32) (hg : ¬ g.val < 30) : a.A g = 0 := by simp only [A, dif_neg hg]

/-- A row of norm zero is zero. -/
theorem zero_of_norm (G : Tab) (g : Fin 32) (h : norm2 G g = 0) (d : Fin 16) : G g d = 0 :=
  mul_self_eq_zero.1 ((Finset.sum_eq_zero_iff_of_nonneg fun d _ => mul_self_nonneg (G g d)).1 h d (Finset.mem_univ d))

/-- Rows of the extended table of equal norm are equal. -/
theorem Good.rows_eq (h : a.Good) (g k : Fin 32) (e : norm2 a.G g = norm2 a.G k) (d : Fin 16) : a.G g d = a.G k d := by
  have hz : ∀ g : Fin 32, ¬ g.val < 30 → norm2 a.G g = 0 := fun g hg =>
    Finset.sum_eq_zero fun d _ => by rw [G_zero g hg, mul_zero]
  by_cases hg : g.val < 30
  · by_cases hk : k.val < 30
    · have hn : ∀ (g : Fin 32) (hg : g.val < 30), ∑ d, a.genre (ix2 ⟨g.val, hg⟩ d) * a.genre (ix2 ⟨g.val, hg⟩ d) = (norm2 a.G g : EReal) := by
        intro g hg
        simp only [h.genre_eq g hg, ← EReal.coe_mul]
        exact coe_sum _ _
      have := h.rows ⟨g.val, hg⟩ ⟨k.val, hk⟩ (by rw [hn g hg, hn k hk, e]) d
      rw [h.genre_eq g hg, h.genre_eq k hk] at this
      exact EReal.coe_eq_coe_iff.1 this
    · rw [zero_of_norm _ g (e.trans (hz k hk)), zero_of_norm _ k (hz k hk)]
  · rw [zero_of_norm _ g (hz g hg), zero_of_norm _ k (e.symm.trans (hz g hg))]

/-- A word of a row below 30. -/
theorem word_row (x : BitVec 32) (h : x.toNat < 30) : x = BitVec.ofNat 32 (row x).val := by
  apply BitVec.eq_of_toNat_eq
  rw [BitVec.toNat_ofNat]
  show x.toNat = (x.toNat % 30) % 2 ^ 32
  omega

end Args

end Cert.Spec

end
-- ==== Proof.KTile.lean ====
/- The block of columns the kernel computes, on the specification's numbers. -/
module

public import proofs.«01_k».proof.Proof.Pools
public import proofs.«01_k».proof.Proof.Args

@[expose] public section

set_option maxRecDepth 16384

noncomputable section

namespace Cert.KernelIdeal.Body

open Cert.KernelIdeal.Gen
open Idealize.ShloMosaic
open Cert.Spec

variable {a : Args} {q : Fin 512 → Fin 4096}

/-- The words of a field that count, the others replaced by 31. -/
theorem featOf_apply (len : IVec S1x512 32) (feat : IVec S1x200x512 32) (l : Fin 200) (b : Fin 512) :
    featOf len feat (ix2 l b) = if (BitVec.ofNat 32 l.val).slt (len (ix2 0 b)) then feat (ix3 0 l b) else 31#32 := by
  pointwise [featOf]
  show Scalar.select (BitVec.ofBool ((BitVec.ofNat 32 l.val).slt (len (ix2 0 b)))) _ _ = _
  cases (BitVec.ofNat 32 l.val).slt (len (ix2 0 b)) <;> rfl

/-- The counts of a field. -/
theorem counts_rows (ha : a.Good) (i : Fin 4) (len : IVec S1x512 32) (feat : IVec S1x200x512 32)
    (hl : ∀ b, len (ix2 0 b) = a.mask (ix2 i (q b))) (hf : ∀ l b, feat (ix3 0 l b) = a.multi (ix3 i (q b) l)) (g : Fin 32) (b : Fin 512) :
    countsOf (F := Ideal) (featOf len feat) (ix2 g b) = ((count (a.rows (q b) i) g : ℝ) : EReal) := by
  refine countsOf_apply _ b _ (fun l => ?_) g
  rw [featOf_apply, hl, hf]
  unfold Args.rows Args.live
  split
  · exact Args.word_row _ (ha.multi i (q b) l)
  · rfl

/-- The entry of a single-valued field's row. -/
theorem single_apply (tab : FVec Ideal S16x32 .f32) (r : IVec S1x512 32) (g : Fin 32) (b : Fin 512) (h : r (ix2 0 b) = BitVec.ofNat 32 g.val) (d : Fin 16) :
    single tab r (ix2 d b) = tab (ix2 d g) := by
  unfold single
  rw [times_apply]
  pointwise [oneHot]
  rw [h]
  refine sum_indicator (fun x => tab (ix2 d x)) _ g fun x => ?_
  rw [indicator_word]
  exact if_congr eq_comm rfl rfl

/-- What the blocks of a grid point hold: the arguments' words at the point's columns `q`, and the tables. -/
structure Ins (a : Args) (q : Fin 512 → Fin 4096) (x0 : IVec S3x512 32) (x1 : IVec S4x512 32) (x2 : IVec S4x200x512 32)
    (x3 x4 x5 x6 x7 : FVec Ideal S16x32 .f32) (x8 : FVec Ideal S1x32 .f32) : Prop where
  /-- The words of single-valued fields, -/
  w0 : ∀ i b, x0 (ix2 i b) = a.single (ix2 i (q b))
  /-- the numbers of positions, -/
  w1 : ∀ i b, x1 (ix2 i b) = a.mask (ix2 i (q b))
  /-- the words of many-valued fields; -/
  w2 : ∀ i l b, x2 (ix3 i l b) = a.multi (ix3 i (q b) l)
  /-- the users, -/
  w3 : ∀ d (g : Fin 30), x3 (ix2 d (Fin.castLE (by decide) g)) = a.user (ix2 (Args.up (by decide) g) d)
  /-- the movies, -/
  w4 : ∀ d g, x4 (ix2 d g) = (a.M g d : EReal)
  /-- the years, -/
  w5 : ∀ d (g : Fin 30), x5 (ix2 d (Fin.castLE (by decide) g)) = a.year (ix2 (Args.up (by decide) g) d)
  /-- the genres, -/
  w6 : ∀ d g, x6 (ix2 d g) = (a.G g d : EReal)
  /-- the tags -/
  w7 : ∀ d g, x7 (ix2 d g) = (a.T g d : EReal)
  /-- and their attention. -/
  w8 : ∀ g, x8 (ix2 0 g) = (a.A g : EReal)

variable {x0 : IVec S3x512 32} {x1 : IVec S4x512 32} {x2 : IVec S4x200x512 32} {x3 x4 x5 x6 x7 : FVec Ideal S16x32 .f32} {x8 : FVec Ideal S1x32 .f32}

/-- The block of a table is the table. -/
theorem tabOf_eq (x : FVec Ideal S16x32 .f32) (d : Fin 16) (g : Fin 32) : tabOf x (ix2 d g) = x (ix2 d g) := by
  pointwise [tabOf]

/-- The counts of field 0, -/
theorem cnt0_apply (ha : a.Good) (I : Ins a q x0 x1 x2 x3 x4 x5 x6 x7 x8) (g : Fin 32) (b : Fin 512) :
    cnt0 (F := Ideal) x1 x2 (ix2 g b) = ((count (a.rows (q b) 0) g : ℝ) : EReal) := by
  refine counts_rows ha 0 _ _ (fun b => ?_) (fun l b => ?_) g b
  · rw [← I.w1]; pointwise
  · rw [← I.w2]; pointwise
/-- of field 1, -/
theorem cnt1_apply (ha : a.Good) (I : Ins a q x0 x1 x2 x3 x4 x5 x6 x7 x8) (g : Fin 32) (b : Fin 512) :
    cnt1 (F := Ideal) x1 x2 (ix2 g b) = ((count (a.rows (q b) 1) g : ℝ) : EReal) := by
  refine counts_rows ha 1 _ _ (fun b => ?_) (fun l b => ?_) g b
  · rw [← I.w1]; pointwise
  · rw [← I.w2]; pointwise
/-- of field 2, -/
theorem cnt2_apply (ha : a.Good) (I : Ins a q x0 x1 x2 x3 x4 x5 x6 x7 x8) (g : Fin 32) (b : Fin 512) :
    cnt2 (F := Ideal) x1 x2 (ix2 g b) = ((count (a.rows (q b) 2) g : ℝ) : EReal) := by
  refine counts_rows ha 2 _ _ (fun b => ?_) (fun l b => ?_) g b
  · rw [← I.w1]; pointwise
  · rw [← I.w2]; pointwise
/-- of field 3. -/
theorem cnt3_apply (ha : a.Good) (I : Ins a q x0 x1 x2 x3 x4 x5 x6 x7 x8) (g : Fin 32) (b : Fin 512) :
    cnt3 (F := Ideal) x1 x2 (ix2 g b) = ((count (a.rows (q b) 3) g : ℝ) : EReal) := by
  refine counts_rows ha 3 _ _ (fun b => ?_) (fun l b => ?_) g b
  · rw [← I.w1]; pointwise
  · rw [← I.w2]; pointwise

/-- The sum of genre rows. -/
theorem pool0_apply (ha : a.Good) (I : Ins a q x0 x1 x2 x3 x4 x5 x6 x7 x8) (d : Fin 16) (b : Fin 512) :
    pool0 x1 x2 x6 (ix2 d b) = (a.P 0 (q b) d : EReal) :=
  times_counts _ _ (a.rows (q b) 0) d b (fun g => a.G g d) (fun g => (tabOf_eq _ d g).trans (I.w6 d g)) fun g => cnt0_apply ha I g b

/-- The mean of movie rows. -/
theorem pool1_apply (ha : a.Good) (I : Ins a q x0 x1 x2 x3 x4 x5 x6 x7 x8) (d : Fin 16) (b : Fin 512) :
    pool1 x1 x2 x4 (ix2 d b) = (a.P 1 (q b) d : EReal) := by
  have h := times_counts (tabOf x4) (cnt1 x1 x2) (a.rows (q b) 1) d b (fun g => a.M g d) (fun g => (tabOf_eq _ d g).trans (I.w4 d g)) fun g => cnt1_apply ha I g b
  show times (tabOf x4) (cnt1 x1 x2) (ix2 d b) * (Named.named κ "inv_l" 0x3BA3D70A#32 : Ideal .f32) = _
  rw [h, show (Named.named κ "inv_l" 0x3BA3D70A#32 : Ideal .f32) = ((1 / 200 : ℝ) : EReal) from rfl]
  exact (EReal.coe_mul _ _).symm

/-- The genre row of greatest norm. -/
theorem pool2_apply (ha : a.Good) (I : Ins a q x0 x1 x2 x3 x4 x5 x6 x7 x8) (d : Fin 16) (b : Fin 512) :
    pool2 x1 x2 x6 (ix2 d b) = (a.P 2 (q b) d : EReal) :=
  chosen_apply _ _ a.G (a.rows (q b) 2) b (fun d g => (tabOf_eq _ d g).trans (I.w6 d g)) (fun g => cnt2_apply ha I g b) ha.rows_eq d

/-- The attention over tag rows. -/
theorem pool3_apply (ha : a.Good) (I : Ins a q x0 x1 x2 x3 x4 x5 x6 x7 x8) (d : Fin 16) (b : Fin 512) :
    pool3 x1 x2 x7 x8 (ix2 d b) = (a.P 3 (q b) d : EReal) :=
  attended_apply _ _ _ a.T a.A (a.rows (q b) 3) b (fun d g => (tabOf_eq _ d g).trans (I.w7 d g))
    (fun g => Eq.trans (by pointwise) (I.w8 g)) (fun g => cnt3_apply ha I g b) d

/-- The movie row a single-valued field names is finite. -/
theorem movie_row (ha : a.Good) (g : Fin 30) (d : Fin 16) : (a.M (Fin.castLE (by decide) g) d : EReal) = a.movie (ix2 (Args.up (by decide) g) d) :=
  (ha.movie_eq (Fin.castLE (by decide) g) g.isLt d).symm

/-- A row of the block: one of a single-valued field's, or one of a pooled field's. -/
theorem tile_apply (ha : a.Good) (I : Ins a q x0 x1 x2 x3 x4 x5 x6 x7 x8) (k : Fin 112) (b : Fin 512) :
    tile x0 x1 x2 x3 x4 x5 x6 x7 x8 (ix2 k b)
      = if h : k.val < 48 then a.s ⟨k.val, h⟩ (q b) else ((a.P ⟨(k.val - 48) / 16, by omega⟩ (q b) ⟨(k.val - 48) % 16, by omega⟩ : ℝ) : EReal) := by
  have hs : ∀ i b, x0 (ix2 i b) = BitVec.ofNat 32 (Fin.castLE (by decide : 30 ≤ 32) (Args.row (a.single (ix2 i (q b))))).val :=
    fun i b => (I.w0 i b).trans (Args.word_row _ (ha.single i (q b)))
  pointwise [tile]
  by_cases h48 : k.val < 48
  · rw [dif_pos h48]
    unfold Args.s
    by_cases h0 : k.val < 16
    · rw [dif_pos h0, dif_pos h0, single_apply _ _ _ _ (by rw [← hs 0 b]; pointwise), tabOf_eq, I.w3]
    rw [dif_neg h0, dif_neg h0]
    by_cases h1 : k.val - 16 < 16
    · rw [dif_pos h1, dif_pos h1, single_apply _ _ _ _ (by rw [← hs 1 b]; pointwise), tabOf_eq, I.w4, movie_row ha]
    rw [dif_neg h1, dif_neg h1, dif_pos (by omega), single_apply _ _ _ _ (by rw [← hs 2 b]; pointwise), tabOf_eq, I.w5]
  · have hP : ∀ (i : Fin 4) (d : Fin 16), (k.val - 48) / 16 = i.val → (k.val - 48) % 16 = d.val →
        (a.P i (q b) d : EReal) = ((a.P ⟨(k.val - 48) / 16, by omega⟩ (q b) ⟨(k.val - 48) % 16, by omega⟩ : ℝ) : EReal) := by
      intro i d hi hd
      rw [show (⟨(k.val - 48) / 16, by omega⟩ : Fin 4) = i from Fin.ext hi, show (⟨(k.val - 48) % 16, by omega⟩ : Fin 16) = d from Fin.ext hd]
    rw [dif_neg h48, dif_neg (by omega), dif_neg (by omega), dif_neg (by omega)]
    by_cases h3 : k.val - 16 - 16 - 16 < 16
    · rw [dif_pos h3, pool0_apply ha I]
      exact hP 0 _ (by show _ = 0; omega) (by show _ = k.val - 16 - 16 - 16; omega)
    rw [dif_neg h3]
    by_cases h4 : k.val - 16 - 16 - 16 - 16 < 16
    · rw [dif_pos h4, pool1_apply ha I]
      exact hP 1 _ (by show _ = 1; omega) (by show _ = k.val - 16 - 16 - 16 - 16; omega)
    rw [dif_neg h4]
    by_cases h5 : k.val - 16 - 16 - 16 - 16 - 16 < 16
    · rw [dif_pos h5, pool2_apply ha I]
      exact hP 2 _ (by show _ = 2; omega) (by show _ = k.val - 16 - 16 - 16 - 16 - 16; omega)
    rw [dif_neg h5, pool3_apply ha I]
    exact hP 3 _ (by show _ = 3; omega) (by show _ = k.val - 16 - 16 - 16 - 16 - 16 - 16; omega)

end Cert.KernelIdeal.Body

end
-- ==== Proof.KNorm.lean ====
/- The sums over the batch, the normalisation and the layers, on the specification's numbers. -/
module

public import proofs.«01_k».proof.Proof.KTile

@[expose] public section

set_option maxRecDepth 16384

noncomputable section

namespace Cert.KernelIdeal.Body

open Cert.KernelIdeal.Gen
open Idealize.ShloMosaic
open Cert.Spec

variable {a : Args} {q : Fin 512 → Fin 4096}
variable {x0 : IVec S3x512 32} {x1 : IVec S4x512 32} {x2 : IVec S4x200x512 32} {x3 x4 x5 x6 x7 : FVec Ideal S16x32 .f32} {x8 : FVec Ideal S1x32 .f32}

/-- The column of sums of field `i`, -/
def c1 (i : Fin 4) : Fin 8 := ⟨2 * i.val, by omega⟩
/-- and of sums of squares. -/
def c2 (i : Fin 4) : Fin 8 := ⟨2 * i.val + 1, by omega⟩

/-- A pooled field of a block. -/
def poolAt (x1 : IVec S4x512 32) (x2 : IVec S4x200x512 32) (x4 x6 x7 : FVec Ideal S16x32 .f32) (x8 : FVec Ideal S1x32 .f32) : Fin 4 → FVec Ideal S16x512 .f32
  | 0 => pool0 x1 x2 x6
  | 1 => pool1 x1 x2 x4
  | 2 => pool2 x1 x2 x6
  | 3 => pool3 x1 x2 x7 x8

theorem poolAt_apply (ha : a.Good) (I : Ins a q x0 x1 x2 x3 x4 x5 x6 x7 x8) (i : Fin 4) (d : Fin 16) (b : Fin 512) :
    poolAt x1 x2 x4 x6 x7 x8 i (ix2 d b) = (a.P i (q b) d : EReal) :=
  match i with
  | 0 => pool0_apply ha I d b
  | 1 => pool1_apply ha I d b
  | 2 => pool2_apply ha I d b
  | 3 => pool3_apply ha I d b

/-- What a block adds to the sums, -/
theorem addSums_sum (s : FVec Ideal S16x8 .f32) (i : Fin 4) (d : Fin 16) :
    addSums s x1 x2 x4 x6 x7 x8 (ix2 d (c1 i)) = s (ix2 d (c1 i)) + ∑ b, poolAt x1 x2 x4 x6 x7 x8 i (ix2 d b) := by
  match i with
  | 0 => pointwise [addSums, sums, rowSum, poolAt, c1]
  | 1 => pointwise [addSums, sums, rowSum, poolAt, c1]
  | 2 => pointwise [addSums, sums, rowSum, poolAt, c1]
  | 3 => pointwise [addSums, sums, rowSum, poolAt, c1]

/-- and to the sums of squares. -/
theorem addSums_sq (s : FVec Ideal S16x8 .f32) (i : Fin 4) (d : Fin 16) :
    addSums s x1 x2 x4 x6 x7 x8 (ix2 d (c2 i))
      = s (ix2 d (c2 i)) + ∑ b, poolAt x1 x2 x4 x6 x7 x8 i (ix2 d b) * poolAt x1 x2 x4 x6 x7 x8 i (ix2 d b) := by
  match i with
  | 0 => pointwise [addSums, sums, rowSum, poolAt, c2]
  | 1 => pointwise [addSums, sums, rowSum, poolAt, c2]
  | 2 => pointwise [addSums, sums, rowSum, poolAt, c2]
  | 3 => pointwise [addSums, sums, rowSum, poolAt, c2]

/-- The normalised field. -/
theorem normed_apply (s1 s2 : FVec Ideal S16x1 .f32) (g b : FVec Ideal S1x16 .f32) (t : FVec Ideal S16x4096 .f32) (d : Fin 16) (y : Fin 4096)
    (p : Fin 4096 → ℝ) (gam : ℝ) (h1 : s1 (ix2 d 0) = ((∑ y, p y : ℝ) : EReal)) (h2 : s2 (ix2 d 0) = ((∑ y, p y * p y : ℝ) : EReal))
    (hg : g (ix2 0 d) = (gam : EReal)) (ht : t (ix2 d y) = (p y : EReal)) :
    normed s1 s2 g b t (ix2 d y) = Cert.Spec.normed gam (b (ix2 0 d)) p y := by
  pointwise [normed, scaleOf, offsetOf, meanOf]
  rw [h1, h2, hg, ht, ofBits_inv4096, ofBits_eps]
  simp only [← EReal.coe_mul, ← EReal.coe_sub, ← EReal.coe_add]
  have hm : (∑ y, p y) * (1 / 4096) = mean p := by unfold mean; ring
  rw [hm, ← var_eq, rsqrt_pos (add_pos_of_nonneg_of_pos (var_nonneg p) eps_pos)]
  simp only [← EReal.coe_mul]
  unfold Cert.Spec.normed
  rw [sub_eq_add_neg, ← EReal.coe_neg, add_comm (b (ix2 0 d)), ← add_assoc, ← EReal.coe_add]
  congr 2
  ring

variable {x9 x10 : FVec Ideal S4x16 .f32} {S : FVec Ideal S16x8 .f32} {X : FVec Ideal S112x4096 .f32}

/-- A row of a pooled field, normalised. -/
theorem normed_row (ha : a.Good) (h9 : ∀ i d, x9 (ix2 i d) = a.gamma (ix2 i d)) (h10 : ∀ i d, x10 (ix2 i d) = a.beta (ix2 i d))
    (hX : ∀ (k : Fin 112) b, X (ix2 k b) = if h : k.val < 48 then a.s ⟨k.val, h⟩ b else ((a.P ⟨(k.val - 48) / 16, by omega⟩ b ⟨(k.val - 48) % 16, by omega⟩ : ℝ) : EReal))
    (hS1 : ∀ i d, S (ix2 d (c1 i)) = ((∑ b, a.P i b d : ℝ) : EReal)) (hS2 : ∀ i d, S (ix2 d (c2 i)) = ((∑ b, a.P i b d * a.P i b d : ℝ) : EReal))
    (i : Fin 4) (d : Fin 16) (k : Fin 112) (b : Fin 4096) (s1 s2 : FVec Ideal S16x1 .f32) (g b' : FVec Ideal S1x16 .f32) (t : FVec Ideal S16x4096 .f32)
    (e1 : s1 (ix2 d 0) = S (ix2 d (c1 i))) (e2 : s2 (ix2 d 0) = S (ix2 d (c2 i))) (eg : g (ix2 0 d) = x9 (ix2 i d)) (eb : b' (ix2 0 d) = x10 (ix2 i d))
    (et : t (ix2 d b) = X (ix2 k b)) (hk : k.val = 48 + 16 * i.val + d.val) : normed s1 s2 g b' t (ix2 d b) = a.x b k := by
  have hi : (⟨(k.val - 48) / 16, by omega⟩ : Fin 4) = i := Fin.ext (by show (k.val - 48) / 16 = i.val; omega)
  have hd : (⟨(k.val - 48) % 16, by omega⟩ : Fin 16) = d := Fin.ext (by show (k.val - 48) % 16 = d.val; omega)
  rw [normed_apply s1 s2 g b' t d b (fun b => a.P i b d) (a.gamma (ix2 i d)).toReal (e1.trans (hS1 i d)) (e2.trans (hS2 i d))
    (eg.trans ((h9 i d).trans (ha.gamma_eq i d))) (by rw [et, hX, dif_neg (by omega), hi, hd]), eb, h10]
  unfold Args.x total
  rw [dif_neg (by omega), hi, hd]

/-- All rows, the pooled fields normalised. -/
theorem normRows_apply (ha : a.Good) (h9 : ∀ i d, x9 (ix2 i d) = a.gamma (ix2 i d)) (h10 : ∀ i d, x10 (ix2 i d) = a.beta (ix2 i d))
    (hX : ∀ (k : Fin 112) b, X (ix2 k b) = if h : k.val < 48 then a.s ⟨k.val, h⟩ b else ((a.P ⟨(k.val - 48) / 16, by omega⟩ b ⟨(k.val - 48) % 16, by omega⟩ : ℝ) : EReal))
    (hS1 : ∀ i d, S (ix2 d (c1 i)) = ((∑ b, a.P i b d : ℝ) : EReal)) (hS2 : ∀ i d, S (ix2 d (c2 i)) = ((∑ b, a.P i b d * a.P i b d : ℝ) : EReal))
    (k : Fin 112) (b : Fin 4096) : normRows x9 x10 X S (ix2 k b) = a.x b k := by
  pointwise [normRows]
  by_cases h : k.val < 48
  · rw [dif_pos h, hX, dif_pos h]
    unfold Args.x total
    rw [dif_pos h]
  rw [dif_neg h]
  by_cases h0 : k.val - 48 < 16
  · rw [dif_pos h0]
    exact normed_row ha h9 h10 hX hS1 hS2 0 ⟨k.val - 48, by omega⟩ k b _ _ _ _ _ (by pointwise [c1]) (by pointwise [c2]) (by pointwise) (by pointwise)
      (by pointwise; congr 2; apply Fin.ext; simp only []; omega) (by simp only []; omega)
  rw [dif_neg h0]
  by_cases h1 : k.val - 48 - 16 < 16
  · rw [dif_pos h1]
    exact normed_row ha h9 h10 hX hS1 hS2 1 ⟨k.val - 48 - 16, by omega⟩ k b _ _ _ _ _ (by pointwise [c1]) (by pointwise [c2]) (by pointwise) (by pointwise)
      (by pointwise; congr 2; apply Fin.ext; simp only []; omega) (by simp only []; omega)
  rw [dif_neg h1]
  by_cases h2 : k.val - 48 - 16 - 16 < 16
  · rw [dif_pos h2]
    exact normed_row ha h9 h10 hX hS1 hS2 2 ⟨k.val - 48 - 16 - 16, by omega⟩ k b _ _ _ _ _ (by pointwise [c1]) (by pointwise [c2]) (by pointwise) (by pointwise)
      (by pointwise; congr 2; apply Fin.ext; simp only []; omega) (by simp only []; omega)
  · rw [dif_neg h2]
    exact normed_row ha h9 h10 hX hS1 hS2 3 ⟨k.val - 48 - 16 - 16 - 16, by omega⟩ k b _ _ _ _ _ (by pointwise [c1]) (by pointwise [c2]) (by pointwise) (by pointwise)
      (by pointwise; congr 2; apply Fin.ext; simp only []; omega) (by simp only []; omega)

/-- The output. -/
theorem mlp_apply (ha : a.Good) (x11 : FVec Ideal S64x112 .f32) (x12 : FVec Ideal S64x1 .f32) (x13 : FVec Ideal S32x64 .f32) (x14 : FVec Ideal S32x1 .f32)
    (x15 : FVec Ideal S1x32 .f32) (x16 : FVec Ideal S1x1 .f32) (h11 : ∀ j k, x11 (ix2 j k) = a.W1 (ix2 k j)) (h12 : ∀ j, x12 (ix2 j 0) = a.b1 (ix1 j))
    (h13 : ∀ j k, x13 (ix2 j k) = a.W2 (ix2 k j)) (h14 : ∀ j, x14 (ix2 j 0) = a.b2 (ix1 j)) (h15 : ∀ k, x15 (ix2 0 k) = a.W3 (ix2 k 0)) (h16 : x16 (ix2 0 0) = a.b3 (ix1 0))
    (b : Fin 4096) (hx : ∀ k, normRows x9 x10 X S (ix2 k b) = a.x b k) :
    mlp x9 x10 x11 x12 x13 x14 x15 x16 X S (ix2 0 b) = a.out b := by
  pointwise [mlp, layer3, layer2, layer1]
  simp only [hx, h11, h12, h13, h14, h15, h16]
  rfl

end Cert.KernelIdeal.Body

end
-- ==== Proof.Blocks.lean ====
/- What the kernel's windows hold, at an index, in terms of the program's arguments. -/
module

public import proofs.«01_k».proof.Proof.KFrame
public import proofs.«01_k».proof.Proof.Pools
public import proofs.«01_k».proof.Proof.Args
public import Idealize.ShloMosaic.Lib.Claim
public import Idealize.ShloMosaic.Lib.Pointwise
public import Idealize.ShloMosaic.Lib.StableHlo.ReadAt

@[expose] public section

set_option maxRecDepth 16384

noncomputable section

namespace Cert.KernelIdeal.Body

open Cert.KernelIdeal.Gen
open Idealize.ShloMosaic Idealize.ShloMosaic.TcCoe

variable (m : (ℓ : Loc nD τ sig) → Buf (Elt Ideal) ℓ)

/-- The kernel's arguments. -/
def argsOf (c : Dev nD) : Cert.Spec.Args where
  single := m ((c : Thread nD τ).loc main_arg0)
  multi := m ((c : Thread nD τ).loc main_arg1)
  mask := m ((c : Thread nD τ).loc main_arg2)
  user := m ((c : Thread nD τ).loc main_arg3)
  movie := m ((c : Thread nD τ).loc main_arg4)
  year := m ((c : Thread nD τ).loc main_arg5)
  genre := m ((c : Thread nD τ).loc main_arg6)
  tag := m ((c : Thread nD τ).loc main_arg7)
  attTag := m ((c : Thread nD τ).loc main_arg9)
  gamma := m ((c : Thread nD τ).loc main_arg11)
  beta := m ((c : Thread nD τ).loc main_arg12)
  W1 := m ((c : Thread nD τ).loc main_arg13)
  b1 := m ((c : Thread nD τ).loc main_arg14)
  W2 := m ((c : Thread nD τ).loc main_arg15)
  b2 := m ((c : Thread nD τ).loc main_arg16)
  W3 := m ((c : Thread nD τ).loc main_arg17)
  b3 := m ((c : Thread nD τ).loc main_arg18)

/-- The mask of the first 30 rows, as a number. -/
theorem first30 (g : Fin 32) : (FloatOps.uitofp FTy.f32 (IntOp.cmpi CmpIPredicate.slt (BitVec.ofNat 32 g.val) 30#32) : Ideal .f32) = if g.val < 30 then (1 : EReal) else 0 := by
  have h : ∀ g : Fin 32, IntOp.cmpi CmpIPredicate.slt (BitVec.ofNat 32 g.val) 30#32 = if g.val < 30 then 1#1 else 0#1 := by decide
  rw [h]
  split <;> simp [FloatOps.uitofp]

/-- The users' table, transposed, its rows past the first 30 zero. -/
theorem V_user (c : Dev nD) (d : Fin 16) (g : Fin 32) : @Eq EReal (V m c main_v8 (ix2 d g))
    (if h : g.val < 30 then (argsOf m c).user (ix2 (Cert.Spec.Args.up (by decide) ⟨g.val, h⟩) d) else 0) := by
  simp only [V, V0, hostOps0, hostOps0_1, hostOps0_2, hostOps0_3, hostOps0_4, List.flatten_cons, List.flatten_nil, List.append_nil, List.cons_append, List.nil_append]
  after_reads_at
  rw [first30]
  split
  · exact mul_one _
  · exact mul_zero _

/-- The movies' table. -/
theorem V_movie (c : Dev nD) (d : Fin 16) (g : Fin 32) : @Eq EReal (V m c main_v14 (ix2 d g))
    (if h : g.val < 30 then (argsOf m c).movie (ix2 (Cert.Spec.Args.up (by decide) ⟨g.val, h⟩) d) else 0) := by
  simp only [V, V0, hostOps0, hostOps0_1, hostOps0_2, hostOps0_3, hostOps0_4, List.flatten_cons, List.flatten_nil, List.append_nil, List.cons_append, List.nil_append]
  after_reads_at
  rw [first30]
  split
  · exact mul_one _
  · exact mul_zero _

/-- The tags' table. -/
theorem V_tag (c : Dev nD) (d : Fin 16) (g : Fin 32) : @Eq EReal (V m c main_v25 (ix2 d g))
    (if h : g.val < 30 then (argsOf m c).tag (ix2 (Cert.Spec.Args.up (by decide) ⟨g.val, h⟩) d) else 0) := by
  simp only [V, V0, hostOps0, hostOps0_1, hostOps0_2, hostOps0_3, hostOps0_4, List.flatten_cons, List.flatten_nil, List.append_nil, List.cons_append, List.nil_append]
  after_reads_at
  rw [first30]
  split
  · exact mul_one _
  · exact mul_zero _

/-- The tags' attention. -/
theorem V_attTag (c : Dev nD) (g : Fin 32) : @Eq EReal (V m c main_v30 (ix2 0 g))
    (if h : g.val < 30 then (argsOf m c).attTag (ix2 (Cert.Spec.Args.up (by decide) ⟨g.val, h⟩) 0) else 0) := by
  simp only [V, V0, hostOps0, hostOps0_1, hostOps0_2, hostOps0_3, hostOps0_4, List.flatten_cons, List.flatten_nil, List.append_nil, List.cons_append, List.nil_append]
  after_reads_at
  rw [first30]
  split
  · exact mul_one _
  · exact mul_zero _

/-- The years' table. -/
theorem V_year (c : Dev nD) (d : Fin 16) (g : Fin 30) : @Eq EReal (V m c main_v17 (ix2 d (Fin.castLE (by decide) g)))
    ((argsOf m c).year (ix2 (Cert.Spec.Args.up (by decide) g) d)) := by
  simp only [V, V0, hostOps0, hostOps0_1, hostOps0_2, hostOps0_3, hostOps0_4, List.flatten_cons, List.flatten_nil, List.append_nil, List.cons_append, List.nil_append]
  after_reads_at
  rfl

/-- The genres' table, its rows past the first 30 zero. -/
theorem V_genre (c : Dev nD) (d : Fin 16) (g : Fin 32) : @Eq EReal (V m c main_v19 (ix2 d g))
    (if h : g.val < 30 then (argsOf m c).genre (ix2 ⟨g.val, h⟩ d) else 0) := by
  simp only [V, V0, hostOps0, hostOps0_1, hostOps0_2, hostOps0_3, hostOps0_4, List.flatten_cons, List.flatten_nil, List.append_nil, List.cons_append, List.nil_append]
  after_reads_at
  rw [show (FloatOps.sitofp FTy.f32 0#32 : Ideal .f32) = (0 : EReal) by simp [FloatOps.sitofp]]
  rfl

/-- The words of the many-valued fields, positions before columns. -/
theorem V_multi (c : Dev nD) (i : Fin 4) (l : Fin 200) (b : Fin 4096) : @Eq (BitVec 32) (V m c main_v31 (ix3 i l b)) ((argsOf m c).multi (ix3 i b l)) := by
  simp only [V, V0, hostOps0, hostOps0_1, hostOps0_2, hostOps0_3, hostOps0_4, List.flatten_cons, List.flatten_nil, List.append_nil, List.cons_append, List.nil_append]
  after_reads_at
  rfl

/-- The first layer's weights, transposed, -/
theorem V_W1 (c : Dev nD) (j : Fin 64) (k : Fin 112) : @Eq EReal (V m c main_v32 (ix2 j k)) ((argsOf m c).W1 (ix2 k j)) := by
  simp only [V, V0, hostOps0, hostOps0_1, hostOps0_2, hostOps0_3, hostOps0_4, List.flatten_cons, List.flatten_nil, List.append_nil, List.cons_append, List.nil_append]
  after_reads_at
  rfl
/-- and offsets as a column; -/
theorem V_b1 (c : Dev nD) (j : Fin 64) : @Eq EReal (V m c main_v33 (ix2 j 0)) ((argsOf m c).b1 (ix1 j)) := by
  simp only [V, V0, hostOps0, hostOps0_1, hostOps0_2, hostOps0_3, hostOps0_4, List.flatten_cons, List.flatten_nil, List.append_nil, List.cons_append, List.nil_append]
  after_reads_at
  rfl
/-- the second's weights -/
theorem V_W2 (c : Dev nD) (j : Fin 32) (k : Fin 64) : @Eq EReal (V m c main_v34 (ix2 j k)) ((argsOf m c).W2 (ix2 k j)) := by
  simp only [V, V0, hostOps0, hostOps0_1, hostOps0_2, hostOps0_3, hostOps0_4, List.flatten_cons, List.flatten_nil, List.append_nil, List.cons_append, List.nil_append]
  after_reads_at
  rfl
/-- and offsets; -/
theorem V_b2 (c : Dev nD) (j : Fin 32) : @Eq EReal (V m c main_v35 (ix2 j 0)) ((argsOf m c).b2 (ix1 j)) := by
  simp only [V, V0, hostOps0, hostOps0_1, hostOps0_2, hostOps0_3, hostOps0_4, List.flatten_cons, List.flatten_nil, List.append_nil, List.cons_append, List.nil_append]
  after_reads_at
  rfl
/-- the third's weights -/
theorem V_W3 (c : Dev nD) (k : Fin 32) : @Eq EReal (V m c main_v36 (ix2 0 k)) ((argsOf m c).W3 (ix2 k 0)) := by
  simp only [V, V0, hostOps0, hostOps0_1, hostOps0_2, hostOps0_3, hostOps0_4, List.flatten_cons, List.flatten_nil, List.append_nil, List.cons_append, List.nil_append]
  after_reads_at
  rfl
/-- and offset. -/
theorem V_b3 (c : Dev nD) : @Eq EReal (V m c main_v37 (ix2 0 0)) ((argsOf m c).b3 (ix1 0)) := by
  simp only [V, V0, hostOps0, hostOps0_1, hostOps0_2, hostOps0_3, hostOps0_4, List.flatten_cons, List.flatten_nil, List.append_nil, List.cons_append, List.nil_append]
  after_reads_at
  rfl

/-! ### The windows -/

theorem index0 : ∀ t : Fin cfg0.N, (cfg0.win 0).index t = ![0, t.val] := by decide +kernel
theorem index1 : ∀ t : Fin cfg0.N, (cfg0.win 1).index t = ![0, t.val] := by decide +kernel
theorem index2 : ∀ t : Fin cfg0.N, (cfg0.win 2).index t = ![0, 0, t.val] := by decide +kernel

/-- The column of the batch at column `b` of block `t`. -/
def col (t : Fin cfg0.N) (b : Fin 512) : Fin 4096 := ⟨512 * t.val + b.val, by have := t.isLt; have := points; omega⟩

/-- Window 0: the block's columns of the single-valued words. -/
theorem iblk0 (c : Dev nD) (t : Fin cfg0.N) (i : Fin 3) (b : Fin 512) : iblk m c 0 t (ix2 i b) = (argsOf m c).single (ix2 i (col t b)) := by
  refine Eq.trans (congrArg (V m c main_arg0) (?_ : _ = ix2 i (col t b))) (congrFun (V_main_arg0 m c) _)
  funext a
  apply Fin.ext
  refine (Pipeline.Window.rect_emb_val (w := cfg0.win 0) t _ a).trans ?_
  rw [index0]
  match a with
  | ⟨0, _⟩ => show 0 * 3 + i.val = i.val; omega
  | ⟨1, _⟩ => show t.val * 512 + b.val = 512 * t.val + b.val; omega

/-- Window 1: of the masks. -/
theorem iblk1 (c : Dev nD) (t : Fin cfg0.N) (i : Fin 4) (b : Fin 512) : iblk m c 1 t (ix2 i b) = (argsOf m c).mask (ix2 i (col t b)) := by
  refine Eq.trans (congrArg (V m c main_arg2) (?_ : _ = ix2 i (col t b))) (congrFun (V_main_arg2 m c) _)
  funext a
  apply Fin.ext
  refine (Pipeline.Window.rect_emb_val (w := cfg0.win 1) t _ a).trans ?_
  rw [index1]
  match a with
  | ⟨0, _⟩ => show 0 * 4 + i.val = i.val; omega
  | ⟨1, _⟩ => show t.val * 512 + b.val = 512 * t.val + b.val; omega

/-- Window 2: of the many-valued words. -/
theorem iblk2 (c : Dev nD) (t : Fin cfg0.N) (i : Fin 4) (l : Fin 200) (b : Fin 512) : iblk m c 2 t (ix3 i l b) = (argsOf m c).multi (ix3 i (col t b) l) := by
  refine Eq.trans (congrArg (V m c main_v31) (?_ : _ = ix3 i l (col t b))) (V_multi m c i l (col t b))
  funext a
  apply Fin.ext
  refine (Pipeline.Window.rect_emb_val (w := cfg0.win 2) t _ a).trans ?_
  rw [index2]
  match a with
  | ⟨0, _⟩ => show 0 * 4 + i.val = i.val; omega
  | ⟨1, _⟩ => show 0 * 200 + l.val = l.val; omega
  | ⟨2, _⟩ => show t.val * 512 + b.val = 512 * t.val + b.val; omega

/-- From window 3 on, a window's block starts at zero, -/
theorem index_zero : ∀ w : Fin cfg0.W, 3 ≤ w.val → ∀ (t : Fin cfg0.N) a, (cfg0.win w).index t a = 0 := by decide +kernel

/-- so an element of it has the same coordinates in the array. -/
theorem emb_zero (w : Fin cfg0.W) (h : 3 ≤ w.val) (t : Fin cfg0.N) (y) (a : Fin (cfg0.win w).shape.rank) : (((cfg0.win w).rect t).emb y a : ℕ) = y a :=
  Pipeline.Window.rect_emb_val_of_index_zero (cfg0.win w) t a (index_zero w h t a) y

set_option maxHeartbeats 2000000 in
/-- The other windows hold their whole arrays. -/
theorem iblk_whole (c : Dev nD) (t : Fin cfg0.N) :
    iblk m c 3 t = V m c main_v8 ∧ iblk m c 4 t = V m c main_v14 ∧ iblk m c 5 t = V m c main_v17 ∧ iblk m c 6 t = V m c main_v19 ∧
    iblk m c 7 t = V m c main_v25 ∧ iblk m c 8 t = V m c main_v30 ∧ iblk m c 9 t = V m c main_arg11 ∧ iblk m c 10 t = V m c main_arg12 ∧
    iblk m c 11 t = V m c main_v32 ∧ iblk m c 12 t = V m c main_v33 ∧ iblk m c 13 t = V m c main_v34 ∧ iblk m c 14 t = V m c main_v35 ∧
    iblk m c 15 t = V m c main_v36 ∧ iblk m c 16 t = V m c main_v37 :=
  ⟨funext fun y => congrArg (V m c main_v8) (funext fun a => Fin.ext (emb_zero 3 (by decide) t y a)),
    funext fun y => congrArg (V m c main_v14) (funext fun a => Fin.ext (emb_zero 4 (by decide) t y a)),
    funext fun y => congrArg (V m c main_v17) (funext fun a => Fin.ext (emb_zero 5 (by decide) t y a)),
    funext fun y => congrArg (V m c main_v19) (funext fun a => Fin.ext (emb_zero 6 (by decide) t y a)),
    funext fun y => congrArg (V m c main_v25) (funext fun a => Fin.ext (emb_zero 7 (by decide) t y a)),
    funext fun y => congrArg (V m c main_v30) (funext fun a => Fin.ext (emb_zero 8 (by decide) t y a)),
    funext fun y => congrArg (V m c main_arg11) (funext fun a => Fin.ext (emb_zero 9 (by decide) t y a)),
    funext fun y => congrArg (V m c main_arg12) (funext fun a => Fin.ext (emb_zero 10 (by decide) t y a)),
    funext fun y => congrArg (V m c main_v32) (funext fun a => Fin.ext (emb_zero 11 (by decide) t y a)),
    funext fun y => congrArg (V m c main_v33) (funext fun a => Fin.ext (emb_zero 12 (by decide) t y a)),
    funext fun y => congrArg (V m c main_v34) (funext fun a => Fin.ext (emb_zero 13 (by decide) t y a)),
    funext fun y => congrArg (V m c main_v35) (funext fun a => Fin.ext (emb_zero 14 (by decide) t y a)),
    funext fun y => congrArg (V m c main_v36) (funext fun a => Fin.ext (emb_zero 15 (by decide) t y a)),
    funext fun y => congrArg (V m c main_v37) (funext fun a => Fin.ext (emb_zero 16 (by decide) t y a))⟩

end Cert.KernelIdeal.Body

end
-- ==== Proof.KValue.lean ====
/- What the kernel's run leaves in its result: the specification's value of its arguments. -/
module

public import proofs.«01_k».proof.Proof.KNorm
public import proofs.«01_k».proof.Proof.Blocks

@[expose] public section

set_option maxRecDepth 16384

noncomputable section

namespace Cert.KernelIdeal.Body

open Cert.KernelIdeal.Gen
open Idealize.ShloMosaic Idealize.ShloMosaic.TcCoe
open Cert.Spec

variable (m : (ℓ : Loc nD τ sig) → Buf (Elt Ideal) ℓ)

/-- The blocks of a grid point hold the arguments at the point's columns. -/
theorem ins (c : Dev nD) (ha : (argsOf m c).Good) (t : Fin cfg0.N) :
    Ins (argsOf m c) (col t) (iblk m c 0 t) (iblk m c 1 t) (iblk m c 2 t) (iblk m c 3 t) (iblk m c 4 t) (iblk m c 5 t) (iblk m c 6 t) (iblk m c 7 t) (iblk m c 8 t) := by
  obtain ⟨h3, h4, h5, h6, h7, h8, -⟩ := iblk_whole m c t
  rw [h3, h4, h5, h6, h7, h8]
  refine ⟨iblk0 m c t, iblk1 m c t, iblk2 m c t, fun d g => ?_, fun d g => ?_, fun d g => V_year m c d g, fun d g => ?_, fun d g => ?_, fun g => ?_⟩
  · exact (V_user m c d _).trans (dif_pos g.isLt)
  · refine (V_movie m c d g).trans ?_
    split
    · next h => exact ha.movie_eq g h d
    · next h => rw [Args.M_zero g h]; rfl
  · refine (V_genre m c d g).trans ?_
    split
    · next h => exact ha.genre_eq g h d
    · next h => rw [Args.G_zero g h]; rfl
  · refine (V_tag m c d g).trans ?_
    split
    · next h => exact ha.tag_eq g h d
    · next h => rw [Args.T_zero g h]; rfl
  · refine (V_attTag m c g).trans ?_
    split
    · next h => exact ha.attTag_eq g h
    · next h => rw [Args.A_zero g h]; rfl

/-- All columns, on the specification's numbers. -/
theorem allCols_apply (c : Dev nD) (ha : (argsOf m c).Good) (k : Fin 112) (b : Fin 4096) :
    allCols m c (ix2 k b) = if h : k.val < 48 then (argsOf m c).s ⟨k.val, h⟩ b
      else (((argsOf m c).P ⟨(k.val - 48) / 16, by omega⟩ b ⟨(k.val - 48) % 16, by omega⟩ : ℝ) : EReal) := by
  have hb : col (pointOf b) ⟨b.val % 512, Nat.mod_lt _ (by decide)⟩ = b := Fin.ext (by show 512 * (b.val / 512) + b.val % 512 = b.val; omega)
  have h := tile_apply ha (ins m c ha (pointOf b)) k ⟨b.val % 512, Nat.mod_lt _ (by decide)⟩
  rw [hb] at h
  exact h

/-- A family over the columns, as one over the naturals. -/
def ext (f : Fin 4096 → ℝ) (k : ℕ) : ℝ := if h : k < 4096 then f ⟨k, h⟩ else 0

/-- It is the family below 4096. -/
theorem ext_of_lt (f : Fin 4096 → ℝ) {k : ℕ} (h : k < 4096) : ext f k = f ⟨k, h⟩ := dif_pos h

/-- The sum over a block of columns, among the naturals. -/
theorem sum_block (f : Fin 4096 → ℝ) (t : Fin cfg0.N) : ∑ b, f (col t b) = ∑ j ∈ Finset.range 512, ext f (512 * t.val + j) := by
  rw [Finset.sum_range]
  exact Finset.sum_congr rfl fun b _ => (ext_of_lt f (col t b).isLt).symm

/-- The sums after point `n` are over the columns of blocks `0` to `n`. -/
theorem sumsAt_apply (c : Dev nD) (ha : (argsOf m c).Good) (i : Fin 4) (d : Fin 16) (n : ℕ) (h : n < cfg0.N) :
    sumsAt m c n h (ix2 d (c1 i)) = ((∑ k ∈ Finset.range (512 * (n + 1)), ext (fun b => (argsOf m c).P i b d) k : ℝ) : EReal) ∧
    sumsAt m c n h (ix2 d (c2 i)) = ((∑ k ∈ Finset.range (512 * (n + 1)), ext (fun b => (argsOf m c).P i b d * (argsOf m c).P i b d) k : ℝ) : EReal) := by
  have step : ∀ (s : FVec Ideal S16x8 .f32) (t : Fin cfg0.N),
      addAt m c s t (ix2 d (c1 i)) = s (ix2 d (c1 i)) + ((∑ b, (argsOf m c).P i (col t b) d : ℝ) : EReal) ∧
      addAt m c s t (ix2 d (c2 i)) = s (ix2 d (c2 i)) + ((∑ b, (argsOf m c).P i (col t b) d * (argsOf m c).P i (col t b) d : ℝ) : EReal) := by
    intro s t
    have hp := poolAt_apply ha (ins m c ha t) i d
    refine ⟨(addSums_sum s i d).trans ?_, (addSums_sq s i d).trans ?_⟩
    · simp only [hp, coe_sum]
    · simp only [hp, ← EReal.coe_mul, coe_sum]
  have z : ∀ k : Fin 8, noSums (F := Ideal) (ix2 d k) = (0 : EReal) := fun k => by pointwise [noSums]
  induction n with
  | zero =>
    have := step noSums ⟨0, h⟩
    rw [z, z, zero_add, zero_add, sum_block (fun b => (argsOf m c).P i b d), sum_block (fun b => (argsOf m c).P i b d * (argsOf m c).P i b d)] at this
    exact this
  | succ n ih =>
    have := step (sumsAt m c n (Nat.lt_of_succ_lt h)) ⟨n + 1, h⟩
    rw [(ih _).1, (ih _).2, sum_block (fun b => (argsOf m c).P i b d), sum_block (fun b => (argsOf m c).P i b d * (argsOf m c).P i b d),
      ← EReal.coe_add, ← EReal.coe_add, ← Finset.sum_range_add, ← Finset.sum_range_add] at this
    exact this

/-- After the last point they are over the batch. -/
theorem sums_batch (f : Fin 4096 → ℝ) : ∑ k ∈ Finset.range (512 * (7 + 1)), ext f k = ∑ b, f b := by
  show ∑ k ∈ Finset.range 4096, ext f k = _
  rw [Finset.sum_range]
  exact Finset.sum_congr rfl fun b _ => dif_pos b.isLt

/-- The output of the last point. -/
theorem outAt_apply (c : Dev nD) (ha : (argsOf m c).Good) (t : Fin cfg0.N) (ht : t.val = 7) (b : Fin 4096) : outAt m c t (ix2 0 b) = (argsOf m c).out b := by
  obtain ⟨t, h⟩ := t
  subst ht
  obtain ⟨-, -, -, -, -, -, h9, h10, h11, h12, h13, h14, h15, h16⟩ := iblk_whole m c ⟨7, h⟩
  unfold outAt
  rw [h9, h10, h11, h12, h13, h14, h15, h16]
  refine mlp_apply ha _ _ _ _ _ _ (V_W1 m c) (V_b1 m c) (V_W2 m c) (V_b2 m c) (V_W3 m c) (V_b3 m c) b fun k => ?_
  refine normRows_apply ha (fun i d => congrFun (V_main_arg11 m c) _) (fun i d => congrFun (V_main_arg12 m c) _) (allCols_apply m c ha) (fun i d => ?_) (fun i d => ?_) k b
  · rw [(sumsAt_apply m c ha i d 7 h).1, sums_batch]
  · rw [(sumsAt_apply m c ha i d 7 h).2, sums_batch]

/-- The last point. -/
abbrev pt7 : Fin cfg0.N := ⟨7, by have := points; omega⟩

/-- The output array after the region is the last point's output. -/
theorem out_array (c : Dev nD) : @Eq (S1x4096.Idx → EReal) ((dats m 0 c).arrAt 17 cfg0.N) (outAt m c pt7) := by
  funext y
  have hf : (cfg0.win 17).flush pt7 = true := (flush0_17 _).mpr rfl
  have h := (dats m 0 c).arrAt_emb_eq_flushed 17 (fun t t' h h' hne => absurd (Fin.ext (by have := (flush0_17 t).mp h; have := (flush0_17 t').mp h'; have := t.isLt; have := t'.isLt; have := points; omega)) hne) pt7 hf y
  refine Eq.trans (congrArg ((dats m 0 c).arrAt 17 cfg0.N) (funext fun a => Fin.ext (emb_zero 17 (by decide) _ y a).symm)) (h.trans ?_)
  exact congrFun (after0_17 m c _) _

/-- The result after the reshape. -/
theorem result (c : Dev nD) : @Eq (S4096.Idx → EReal) (Pipeline.afterTail₀ cfgs (dats m) 0 (V0 m) [hostOps1] c main_v39) (fun y => outAt m c pt7 (ix2 0 (y 0))) := by
  unfold Pipeline.afterTail₀
  simp only [hostOps1, List.flatten_cons, List.flatten_nil, List.append_nil, List.cons_append, List.nil_append]
  funext y
  after_reads_at
  exact congrFun ((Pipeline.withArrays_arr spec0 launch0.2.arr_inj c (V0 m c) (fun w => (dats m 0 c).arrAt w cfg0.N) 17).trans (out_array m c)) _

/-- The run leaves in the result the specification's value of its arguments. -/
theorem run_value (ρ : Dev nD → PrngReg) (ha : ∀ c, (argsOf m c).Good) : θ_run defs (onTc (τ := τ) (main (F := Ideal))) ⟨m, fun _ => 0, ρ⟩ (fun r => ∀ c : Dev nD,
    @Eq (S4096.Idx → EReal) (r.2.mem ((c.tc : Thread nD τ).loc main_v39)) (fun y => (argsOf m c).out (y 0))) :=
  (θ_run defs _ _).mono (fun r h c => ((h c).2 main_v39 (by decide)).trans ((result m c).trans (funext fun y => outAt_apply m c (ha c) _ rfl (y 0)))) (run_main m ρ)

end Cert.KernelIdeal.Body

end
-- ==== Proof.RefTake.lean ====
/- The reference's table look-ups at an index: an index below 30 is not wrapped, passes the range test, and reads its row. -/
module

public import proofs.«01_k».proof.Proof.Args
public import proofs.«01_k».proof.Proof.Gen.ReferenceIdeal.Run
public import Idealize.ShloMosaic.Lib.ReduceAll
public import Idealize.ShloMosaic.Lib.Routing.OpsPair
public import Idealize.ShloMosaic.Lib.IdealHost

@[expose] public section

set_option maxRecDepth 16384

noncomputable section

namespace Cert.ReferenceIdeal.Value

open Cert.ReferenceIdeal Cert.ReferenceIdeal.Gen
open Idealize.ShloMosaic Idealize.ShloMosaic.TcCoe
open Cert.Spec

/-- A word of a number below `n`, read as a signed number and clamped, is the number. -/
theorem clamp_word {n : ℕ} (x : BitVec 32) (k : ℕ) (hx : x.toNat = k) (hk : k < n) (hk' : k < 2 ^ 31) : min x.toInt.toNat (n - 1) = k := by
  have : x.toInt = k := by rw [BitVec.toInt_eq_toNat_cond, hx, if_pos (by omega)]
  rw [this]
  omega

/-- A look-up of whole rows by a column of indices. -/
theorem gather_rows {α : Type} {N B C : ℕ}
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (b : Fin B) (d : Fin C) (r : Fin N)
    (hr : (idx (ix2 b 0)).toNat = r.val) (hr' : r.val < 2 ^ 31) :
    Host.gather (⟨[1], [0], [], [], [0], 1, ![1, C], wf⟩ : GatherDims ⟨2, ![N, C]⟩ ⟨2, ![B, 1]⟩ ⟨2, ![B, C]⟩) x idx (ix2 b d) = x (ix2 r d) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    unfold GatherDims.start
    rw [dif_pos (List.mem_singleton.mpr rfl)]
    refine Eq.trans ?_ (clamp_word _ _ hr r.isLt hr')
    show min (idx _).toInt.toNat (N - 1) = _
    congr 4
    funext e
    match e with
    | ⟨0, _⟩ => rfl
    | ⟨1, _⟩ => rfl
  · rw [GatherDims.start, dif_neg (by simp)]
    show 0 + 0 + d.val = d.val
    omega

/-- A look-up of whole rows by a plane of indices. -/
theorem gather_planes {α : Type} {N B L C : ℕ}
    (wf : GatherDims.WF ⟨2, ![N, C]⟩ ⟨3, ![B, L, 1]⟩ ⟨3, ![B, L, C]⟩ [2] [0] [] [0] [] 2 ![1, C])
    (x : (⟨2, ![N, C]⟩ : Shape).Idx → α) (idx : IVec ⟨3, ![B, L, 1]⟩ 32) (b : Fin B) (l : Fin L) (d : Fin C) (r : Fin N)
    (hr : (idx (ix3 b l 0)).toNat = r.val) (hr' : r.val < 2 ^ 31) :
    Host.gather (⟨[2], [0], [], [], [0], 2, ![1, C], wf⟩ : GatherDims ⟨2, ![N, C]⟩ ⟨3, ![B, L, 1]⟩ ⟨3, ![B, L, C]⟩) x idx (ix3 b l d) = x (ix2 r d) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    unfold GatherDims.start
    rw [dif_pos (List.mem_singleton.mpr rfl)]
    refine Eq.trans ?_ (clamp_word _ _ hr r.isLt hr')
    show min (idx _).toInt.toNat (N - 1) = _
    congr 4
    funext e
    match e with
    | ⟨0, _⟩ => rfl
    | ⟨1, _⟩ => rfl
    | ⟨2, _⟩ => rfl
  · rw [GatherDims.start, dif_neg (by simp)]
    show 0 + 0 + d.val = d.val
    omega

/-- A look-up of one position in each batch. -/
theorem gather_position {α : Type} {B L C : ℕ}
    (wf : GatherDims.WF ⟨3, ![B, L, C]⟩ ⟨3, ![B, 1, 1]⟩ ⟨3, ![B, 1, C]⟩ [2] [1] [0] [1] [0] 2 ![1, 1, C])
    (x : (⟨3, ![B, L, C]⟩ : Shape).Idx → α) (idx : IVec ⟨3, ![B, 1, 1]⟩ 32) (b : Fin B) (d : Fin C) (r : Fin L)
    (hr : (idx (ix3 b 0 0)).toNat = r.val) (hr' : r.val < 2 ^ 31) :
    Host.gather (⟨[2], [1], [0], [0], [1], 2, ![1, 1, C], wf⟩ : GatherDims ⟨3, ![B, L, C]⟩ ⟨3, ![B, 1, 1]⟩ ⟨3, ![B, 1, C]⟩) x idx (ix3 b 0 d) = x (ix3 b r d) := by
  unfold Host.gather
  congr 1
  funext a
  refine Fin.ext ?_
  show GatherDims.start _ _ idx a + GatherDims.batchCoord _ _ a + GatherDims.offCoord _ _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl)]
    show 0 + b.val + 0 = b.val
    omega
  · rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos (List.mem_singleton.mpr rfl)]
    refine Eq.trans ?_ (clamp_word _ _ hr r.isLt hr')
    show min (idx _).toInt.toNat (L - 1) = _
    congr 4
    funext e
    match e with
    | ⟨0, _⟩ => rfl
    | ⟨1, _⟩ => rfl
    | ⟨2, _⟩ => rfl
  · rw [GatherDims.batchCoord_eq_zero _ _ _ (fun h => by simp at h), GatherDims.start, dif_neg (by simp)]
    show 0 + 0 + d.val = d.val
    omega

/-- The range test of one small index. -/
theorem in_range (x : BitVec 32) (n : ℕ) (hx : x.toNat ≤ n) (hn : n < 2 ^ 31) :
    IntOp.andi (IntOp.cmpi .sge x 0#32) (IntOp.cmpi .sle x (BitVec.ofNat 32 n)) = 1#1 := by
  have h1 : x.toInt = x.toNat := by rw [BitVec.toInt_eq_toNat_cond, if_pos (by omega)]
  have h2 : (BitVec.ofNat 32 n).toInt = n := by rw [BitVec.toInt_eq_toNat_cond, BitVec.toNat_ofNat, Nat.mod_eq_of_lt (by omega), if_pos (by omega)]
  have a : IntOp.cmpi .sge x 0#32 = 1#1 := by
    show BitVec.ofBool ((0#32).sle x) = 1#1
    rw [BitVec.sle_iff_toInt_le.mpr (by rw [h1]; simp)]; rfl
  have b : IntOp.cmpi .sle x (BitVec.ofNat 32 n) = 1#1 := by
    show BitVec.ofBool (x.sle _) = 1#1
    rw [BitVec.sle_iff_toInt_le.mpr (by rw [h1, h2]; omega)]; rfl
  rw [a, b]; rfl

/-- The range test of a plane of small indices. -/
theorem test_planes (v : IVec S4096x200x1 32) (n : ℕ) (hn : n < 2 ^ 31) (hv : ∀ b l, (v (ix3 b l 0)).toNat ≤ n) :
    Host.reduce IntOp.andi (andi (cmpi .sge v (broadcastInDim S4096x200x1 ![] bcast_S_S4096x200x1 (constantI S_ 32 0#32))) (cmpi .sle v (broadcastInDim S4096x200x1 ![0, 1, 2] bcast_S1x1x1_S4096x200x1_0_1_2 (broadcastInDim S1x1x1 ![2] bcast_S1_S1x1x1_2 (constantI S1 32 (BitVec.ofNat 32 n)))))) (constantI S_ 1 1#1) reducesTo_S4096x200x1_S4096x200_d2 h_S_ = fun _ => 1#1 := by
  funext j
  refine Host.reduce_andi_one _ _ _ _ j rfl fun i => ?_
  have : i = ix3 (i 0) (i 1) 0 := by
    funext e
    match e with
    | ⟨0, _⟩ => rfl
    | ⟨1, _⟩ => rfl
    | ⟨2, _⟩ => exact Subsingleton.elim (α := Fin 1) _ _
  rw [this]
  exact in_range _ n (hv _ _) hn

/-- The range test of a column of small indices. -/
theorem test_column (v : IVec S4096x1 32) (n : ℕ) (hn : n < 2 ^ 31) (hv : ∀ b, (v (ix2 b 0)).toNat ≤ n) :
    Host.reduce IntOp.andi (andi (cmpi .sge v (broadcastInDim S4096x1 ![] bcast_S_S4096x1 (constantI S_ 32 0#32))) (cmpi .sle v (broadcastInDim S4096x1 ![0, 1] bcast_S1x1_S4096x1_0_1 (broadcastInDim S1x1 ![1] bcast_S1_S1x1_1 (constantI S1 32 (BitVec.ofNat 32 n)))))) (constantI S_ 1 1#1) reducesTo_S4096x1_S4096_d1 h_S_ = fun _ => 1#1 := by
  funext j
  refine Host.reduce_andi_one _ _ _ _ j rfl fun i => ?_
  have : i = ix2 (i 0) 0 := by
    funext e
    match e with
    | ⟨0, _⟩ => rfl
    | ⟨1, _⟩ => exact Subsingleton.elim (α := Fin 1) _ _
  rw [this]
  exact in_range _ n (hv _) hn

/-- The range test of one small index in each batch. -/
theorem test_position (v : IVec S4096x1x1 32) (n : ℕ) (hn : n < 2 ^ 31) (hv : ∀ b, (v (ix3 b 0 0)).toNat ≤ n) :
    Host.reduce IntOp.andi (andi (cmpi .sge v (broadcastInDim S4096x1x1 ![] bcast_S_S4096x1x1 (constantI S_ 32 0#32))) (cmpi .sle v (broadcastInDim S4096x1x1 ![0, 1, 2] bcast_S1x1x1_S4096x1x1_0_1_2 (broadcastInDim S1x1x1 ![2] bcast_S1_S1x1x1_2 (constantI S1 32 (BitVec.ofNat 32 n)))))) (constantI S_ 1 1#1) reducesTo_S4096x1x1_S4096x1_d2 h_S_ = fun _ => 1#1 := by
  funext j
  refine Host.reduce_andi_one _ _ _ _ j rfl fun i => ?_
  have : i = ix3 (i 0) 0 0 := by
    funext e
    match e with
    | ⟨0, _⟩ => rfl
    | ⟨1, _⟩ => exact Subsingleton.elim (α := Fin 1) _ _
    | ⟨2, _⟩ => exact Subsingleton.elim (α := Fin 1) _ _
  rw [this]
  exact in_range _ n (hv _) hn

/-- The batch of an index of a column. -/
def batch1 (j : S4096.Idx) : Fin 4096 := j 0

/-- The batch of an index of a plane of one column. -/
def batch2 (j : S4096x1.Idx) : Fin 4096 := j 0

/-- A fold along the rows of a plane. -/
theorem fold_rows {α : Type} (f : α → α → α) [Std.Commutative f] [Std.Associative f] (x : S4096x200.Idx → α) (init : S_.Idx → α) :
    Host.reduce f x init reducesTo_S4096x200_S4096_d1 h_S_ = fun j => Finset.univ.fold f (init (Shape.Idx.first h_S_)) fun l : Fin 200 => x (ix2 (batch1 j) l) := by
  funext j
  rw [Host.reduce_eq_fold_single f x init _ (by decide) h_S_ j]
  refine Finset.fold_congr fun l _ => congrArg x ?_
  funext a
  match a with
  | ⟨0, _⟩ => rfl
  | ⟨1, _⟩ => rfl

/-- A fold along the positions of a plane of single columns. -/
theorem fold_positions {α : Type} (f : α → α → α) [Std.Commutative f] [Std.Associative f] (x : S4096x200x1.Idx → α) (init : S_.Idx → α) :
    Host.reduce f x init reducesTo_S4096x200x1_S4096x1_d1 h_S_ = fun j => Finset.univ.fold f (init (Shape.Idx.first h_S_)) fun l : Fin 200 => x (ix3 (batch2 j) l 0) := by
  funext j
  rw [Host.reduce_eq_fold_single f x init _ (by decide) h_S_ j]
  refine Finset.fold_congr fun l _ => congrArg x ?_
  funext a
  match a with
  | ⟨0, _⟩ => rfl
  | ⟨1, _⟩ => rfl
  | ⟨2, _⟩ => exact Subsingleton.elim (α := Fin 1) _ _

end Cert.ReferenceIdeal.Value

end
-- ==== Proof.RefRows.lean ====
/- The rows the reference looks up, at an index. -/
module

public import proofs.«01_k».proof.Proof.RefTake
public import proofs.«01_k».proof.Proof.Pools

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Cert.Spec
open Cert.KernelIdeal.Body (fold_max_real fold_minsi)

variable (V : Valuation τ sig (Elt Ideal))

/-- The reference's arguments. -/
def argsOf : Args where
  single := V (Proc.devRef .tc main_arg0)
  multi := V (Proc.devRef .tc main_arg1)
  mask := V (Proc.devRef .tc main_arg2)
  user := V (Proc.devRef .tc main_arg3)
  movie := V (Proc.devRef .tc main_arg4)
  year := V (Proc.devRef .tc main_arg5)
  genre := V (Proc.devRef .tc main_arg6)
  tag := V (Proc.devRef .tc main_arg7)
  attTag := V (Proc.devRef .tc main_arg9)
  gamma := V (Proc.devRef .tc main_arg11)
  beta := V (Proc.devRef .tc main_arg12)
  W1 := V (Proc.devRef .tc main_arg13)
  b1 := V (Proc.devRef .tc main_arg14)
  W2 := V (Proc.devRef .tc main_arg15)
  b2 := V (Proc.devRef .tc main_arg16)
  W3 := V (Proc.devRef .tc main_arg17)
  b3 := V (Proc.devRef .tc main_arg18)

/-- The words of the single-valued fields. -/
theorem single0 (b : Fin 4096) : res_main_v1 V (ix1 b) = (argsOf V).single (ix2 0 b) := by pointwise [res_main_v1, argsOf]
theorem single1 (b : Fin 4096) : res_main_v4 V (ix1 b) = (argsOf V).single (ix2 1 b) := by pointwise [res_main_v4, argsOf]
theorem single2 (b : Fin 4096) : res_main_v7 V (ix1 b) = (argsOf V).single (ix2 2 b) := by pointwise [res_main_v7, argsOf]

/-- The words of the many-valued fields. -/
theorem multi0 (b : Fin 4096) (l : Fin 200) : res_main_v19 V (ix2 b l) = (argsOf V).multi (ix3 0 b l) := by pointwise [res_main_v19, argsOf]
theorem multi1 (b : Fin 4096) (l : Fin 200) : res_main_v33 V (ix2 b l) = (argsOf V).multi (ix3 1 b l) := by pointwise [res_main_v33, argsOf]
theorem multi2 (b : Fin 4096) (l : Fin 200) : res_main_v49 V (ix2 b l) = (argsOf V).multi (ix3 2 b l) := by pointwise [res_main_v49, argsOf]
theorem multi3 (b : Fin 4096) (l : Fin 200) : res_main_v74 V (ix2 b l) = (argsOf V).multi (ix3 3 b l) := by pointwise [res_main_v74, argsOf]
theorem multi3' (b : Fin 4096) (l : Fin 200) : res_main_v87 V (ix2 b l) = (argsOf V).multi (ix3 3 b l) := by pointwise [res_main_v87, argsOf]

variable (ha : (argsOf V).Good)
include ha

/-- The index a word gives is the word. -/
theorem index0 (b : Fin 4096) : res_main_call0_v5 V (ix2 b 0) = (argsOf V).single (ix2 0 b) := by
  have h := ha.single 0 b
  pointwise [res_main_call0_v5]
  rw [single0]; exact Routing.wrap_of_lt _ _ (by omega)
theorem index1 (b : Fin 4096) : res_main_call1_v5 V (ix2 b 0) = (argsOf V).single (ix2 1 b) := by
  have h := ha.single 1 b
  pointwise [res_main_call1_v5]
  rw [single1]; exact Routing.wrap_of_lt _ _ (by omega)
theorem index2 (b : Fin 4096) : res_main_call2_v5 V (ix2 b 0) = (argsOf V).single (ix2 2 b) := by
  have h := ha.single 2 b
  pointwise [res_main_call2_v5]
  rw [single2]; exact Routing.wrap_of_lt _ _ (by omega)
theorem index3 (b : Fin 4096) (l : Fin 200) : res_main_call3_v5 V (ix3 b l 0) = (argsOf V).multi (ix3 0 b l) := by
  have h := ha.multi 0 b l
  pointwise [res_main_call3_v5]
  rw [multi0]; exact Routing.wrap_of_lt _ _ (by omega)
theorem index5 (b : Fin 4096) (l : Fin 200) : res_main_call5_v5 V (ix3 b l 0) = (argsOf V).multi (ix3 1 b l) := by
  have h := ha.multi 1 b l
  pointwise [res_main_call5_v5]
  rw [multi1]; exact Routing.wrap_of_lt _ _ (by omega)
theorem index7 (b : Fin 4096) (l : Fin 200) : res_main_call7_v5 V (ix3 b l 0) = (argsOf V).multi (ix3 2 b l) := by
  have h := ha.multi 2 b l
  pointwise [res_main_call7_v5]
  rw [multi2]; exact Routing.wrap_of_lt _ _ (by omega)
theorem index11 (b : Fin 4096) (l : Fin 200) : res_main_call11_v5 V (ix3 b l 0) = (argsOf V).multi (ix3 3 b l) := by
  have h := ha.multi 3 b l
  pointwise [res_main_call11_v5]
  rw [multi3]; exact Routing.wrap_of_lt _ _ (by omega)
theorem index13 (b : Fin 4096) (l : Fin 200) : res_main_call13_v5 V (ix3 b l 0) = (argsOf V).multi (ix3 3 b l) := by
  have h := ha.multi 3 b l
  pointwise [res_main_call13_v5]
  rw [multi3']; exact Routing.wrap_of_lt _ _ (by omega)
omit ha

/-- The choice between a looked-up entry and zero at a position, on real numbers: the row named there, or the zero row. -/
theorem counted (a : Args) (i : Fin 4) (b : Fin 4096) (l : Fin 200) (x : EReal) (f : Fin 32 → ℝ)
    (hx : x = (f ⟨(Args.row (a.multi (ix3 i b l))).val, by omega⟩ : EReal)) (h0 : f 31 = 0) :
    Scalar.select (IntOp.cmpi .sgt (a.mask (ix2 i b)) (BitVec.ofNat 32 l.val)) x (0 : EReal) = (f (a.rows b i l) : EReal) := by
  unfold Args.rows Args.live
  show Scalar.select (BitVec.ofBool ((BitVec.ofNat 32 l.val).slt (a.mask (ix2 i b)))) x 0 = _
  cases (BitVec.ofNat 32 l.val).slt (a.mask (ix2 i b))
  · simp only [Bool.false_eq_true, if_false, h0]; rfl
  · simp only [if_true, ← hx]; rfl

/-- A sum of numbers that are real. -/
theorem sum_reals {n : ℕ} (f : Fin n → EReal) (g : Fin n → ℝ) (h : ∀ l, f l = (g l : EReal)) : ∑ l, f l = ((∑ l, g l : ℝ) : EReal) := by
  simp only [h, coe_sum]

/-- The row a small word names has the word's number. -/
theorem row_val (x : BitVec 32) (h : x.toNat < 30) : x.toNat = (Args.row x).val := (Nat.mod_eq_of_lt h).symm

variable (ha : (argsOf V).Good)
include ha

/-- The first pooled field. -/
theorem p0 (b : Fin 4096) (d : Fin 16) : res_main_v24 V (ix2 b d) = ((argsOf V).P 0 b d : EReal) := by
  have hrow : ∀ l : Fin 200, Host.gather gather_S30x16_S4096x200x1_S4096x200x16_2_0_n_n_0_2_116 (V (Proc.devRef .tc main_arg6)) (res_main_call3_v5 V) (ix3 b l d) = (argsOf V).genre (ix2 (Args.row ((argsOf V).multi (ix3 0 b l))) d) := fun l =>
    gather_planes _ _ _ b l d _ (by rw [index3 V ha]; exact row_val _ (ha.multi 0 b l)) (by omega)
  have htest := test_planes (res_main_call3_v5 V) 29 (by decide) (fun b l => by rw [index3 V ha]; have := ha.multi 0 b l; omega)
  rw [res_main_v24, htest]
  pointwise
  refine sum_reals _ (fun l => (argsOf V).G ((argsOf V).rows b 0 l) d) fun l => ?_
  rw [hrow]
  exact counted (argsOf V) 0 b l _ (fun g => (argsOf V).G g d) (ha.genre_eq ⟨_, _⟩ (Args.row _).isLt d) (Args.G_zero 31 (by decide) d)

/-- The second. -/
theorem p1 (b : Fin 4096) (d : Fin 16) : res_main_v40 V (ix2 b d) = ((argsOf V).P 1 b d : EReal) := by
  have hrow : ∀ l : Fin 200, Host.gather gather_S132000x16_S4096x200x1_S4096x200x16_2_0_n_n_0_2_116 (V (Proc.devRef .tc main_arg4)) (res_main_call5_v5 V) (ix3 b l d) = (argsOf V).movie (ix2 (Args.up (by decide) (Args.row ((argsOf V).multi (ix3 1 b l)))) d) := fun l =>
    gather_planes _ _ _ b l d (Args.up (by decide) _) (by rw [index5 V ha]; exact row_val _ (ha.multi 1 b l)) (by show (Args.row _).val < _; omega)
  have htest := test_planes (res_main_call5_v5 V) 131999 (by decide) (fun b l => by rw [index5 V ha]; have := ha.multi 1 b l; omega)
  have hsum : ∀ l : Fin 200, Scalar.select (IntOp.cmpi .sgt ((argsOf V).mask (ix2 1 b)) (BitVec.ofNat 32 l.val)) (Host.gather gather_S132000x16_S4096x200x1_S4096x200x16_2_0_n_n_0_2_116 (V (Proc.devRef .tc main_arg4)) (res_main_call5_v5 V) (ix3 b l d)) (0 : EReal) = ((argsOf V).M ((argsOf V).rows b 1 l) d : EReal) := fun l => by
    rw [hrow]
    exact counted (argsOf V) 1 b l _ (fun g => (argsOf V).M g d) (ha.movie_eq ⟨_, _⟩ (Args.row _).isLt d) (Args.M_zero 31 (by decide) d)
  rw [res_main_v40, htest]
  pointwise
  refine (congrArg (fun z => Ideal.div z _) (sum_reals _ _ hsum)).trans ?_
  rw [ofBits_200, div_reals _ _ (by norm_num)]
  show _ = ((meanPool (argsOf V).M ((argsOf V).rows b 1) d : ℝ) : EReal)
  rw [meanPool, mul_one_div]

/-- The rows of the third field. -/
theorem e2 (b : Fin 4096) (l : Fin 200) (d : Fin 16) : res_main_v53 V (ix3 b l d) = ((argsOf V).G ((argsOf V).rows b 2 l) d : EReal) := by
  have hrow : Host.gather gather_S30x16_S4096x200x1_S4096x200x16_2_0_n_n_0_2_116 (V (Proc.devRef .tc main_arg6)) (res_main_call7_v5 V) (ix3 b l d) = (argsOf V).genre (ix2 (Args.row ((argsOf V).multi (ix3 2 b l))) d) :=
    gather_planes _ _ _ b l d _ (by rw [index7 V ha]; exact row_val _ (ha.multi 2 b l)) (by omega)
  have htest := test_planes (res_main_call7_v5 V) 29 (by decide) (fun b l => by rw [index7 V ha]; have := ha.multi 2 b l; omega)
  rw [res_main_v53, htest]
  pointwise
  rw [hrow]
  exact counted (argsOf V) 2 b l _ (fun g => (argsOf V).G g d) (ha.genre_eq ⟨_, _⟩ (Args.row _).isLt d) (Args.G_zero 31 (by decide) d)

/-- Their norms. -/
theorem l2 (b : Fin 4096) (l : Fin 200) : res_main_v55 V (ix2 b l) = (norm2 (argsOf V).G ((argsOf V).rows b 2 l) : EReal) := by
  pointwise [res_main_v55]
  simp only [e2 V ha, ← EReal.coe_mul, coe_sum]
  rfl

/-- The first position of the greatest norm. -/
theorem first_greatest (b : Fin 4096) : ∃ l : Fin 200, (∀ l', norm2 (argsOf V).G ((argsOf V).rows b 2 l') ≤ norm2 (argsOf V).G ((argsOf V).rows b 2 l)) ∧
    res_main_v63 V (ix3 b 0 0) = BitVec.ofNat 32 l.val := by
  obtain ⟨l₀, hmax, hle⟩ := fold_max_real 0 fun l : Fin 200 => norm2 (argsOf V).G ((argsOf V).rows b 2 l)
  obtain ⟨l, hl, hfold⟩ := fold_minsi (n := 200) (by decide) (fun l => decide ((norm2 (argsOf V).G ((argsOf V).rows b 2 l) : EReal) = norm2 (argsOf V).G ((argsOf V).rows b 2 l₀))) l₀ (by simp)
  refine ⟨l, fun l' => ?_, ?_⟩
  · rw [EReal.coe_eq_coe_iff.1 (of_decide_eq_true hl)]
    exact hle l'
  · rw [res_main_v63, fold_rows (α := BitVec 32) IntOp.minsi, fold_rows (FloatOps.maximumf (F := Ideal) (φ := .f32))]
    pointwise [batch1]
    simp only [l2 V ha, ofBits_ninf, hmax]
    refine Eq.trans (congrArg (fun f : Fin 200 → BitVec 32 => Finset.univ.fold IntOp.minsi 2147483647#32 f) (funext fun x => ?_)) hfold
    split
    · next h => rw [decide_eq_true h]; rfl
    · next h => rw [decide_eq_false h]; rfl

/-- The third pooled field. -/
theorem p2 (b : Fin 4096) (d : Fin 16) : res_main_v65 V (ix2 b d) = ((argsOf V).P 2 b d : EReal) := by
  have hidx : ∀ b, ∃ l : Fin 200, (∀ l', norm2 (argsOf V).G ((argsOf V).rows b 2 l') ≤ norm2 (argsOf V).G ((argsOf V).rows b 2 l)) ∧ res_main_call10_v4 V (ix3 b 0 0) = BitVec.ofNat 32 l.val := by
    intro b
    obtain ⟨l, h, e⟩ := first_greatest V ha b
    refine ⟨l, h, ?_⟩
    pointwise [res_main_call10_v4]
    rw [e]
    exact Routing.wrap_of_lt _ _ (by rw [BitVec.toNat_ofNat]; omega)
  have htest := test_position (res_main_call10_v4 V) 199 (by decide) (fun b => by obtain ⟨l, -, e⟩ := hidx b; rw [e, BitVec.toNat_ofNat]; omega)
  obtain ⟨l, h, e⟩ := hidx b
  have hrow : Host.gather gather_S4096x200x16_S4096x1x1_S4096x1x16_2_1_0_0_1_2_1116 (res_main_v53 V) (res_main_call10_v4 V) (ix3 b 0 d) = res_main_v53 V (ix3 b l d) :=
    gather_position _ _ _ b d l (by rw [e, BitVec.toNat_ofNat]; omega) (by omega)
  rw [res_main_v65, htest]
  pointwise
  rw [hrow, e2 V ha]
  exact congrArg _ (best_eq _ ha.rows_eq _ l h d)

/-- The attention of the rows of the fourth field. -/
theorem aw (b : Fin 4096) (l : Fin 200) : res_main_v78 V (ix3 b l 0) = ((argsOf V).A ((argsOf V).rows b 3 l) : EReal) := by
  have hrow : Host.gather gather_S41000x1_S4096x200x1_S4096x200x1_2_0_n_n_0_2_11 (V (Proc.devRef .tc main_arg9)) (res_main_call11_v5 V) (ix3 b l 0) = (argsOf V).attTag (ix2 (Args.up (by decide) (Args.row ((argsOf V).multi (ix3 3 b l)))) 0) :=
    gather_planes _ _ _ b l 0 (Args.up (by decide) _) (by rw [index11 V ha]; exact row_val _ (ha.multi 3 b l)) (by show (Args.row _).val < _; omega)
  have htest := test_planes (res_main_call11_v5 V) 40999 (by decide) (fun b l => by rw [index11 V ha]; have := ha.multi 3 b l; omega)
  rw [res_main_v78, htest]
  pointwise
  rw [hrow]
  exact counted (argsOf V) 3 b l _ (argsOf V).A (ha.attTag_eq ⟨_, _⟩ (Args.row _).isLt) (Args.A_zero 31 (by decide))

/-- Their exponentials, each divided by the exponential of the greatest. -/
theorem weights (b : Fin 4096) : ∃ M : ℝ, ∀ l, res_main_v98 V (ix3 b l 0) = (Real.exp ((argsOf V).A ((argsOf V).rows b 3 l) - M) : EReal) := by
  obtain ⟨l₀, hmax, -⟩ := fold_max_real 0 fun l : Fin 200 => (argsOf V).A ((argsOf V).rows b 3 l)
  refine ⟨(argsOf V).A ((argsOf V).rows b 3 l₀), fun l => ?_⟩
  rw [res_main_v98, fold_positions]
  pointwise [batch2]
  simp only [aw V ha, ofBits_ninf, hmax, bot_le, max_eq_right]
  rw [← EReal.coe_sub]
  rfl

/-- The fourth pooled field. -/
theorem p3 (b : Fin 4096) (d : Fin 16) : res_main_v105 V (ix2 b d) = ((argsOf V).P 3 b d : EReal) := by
  have hrow : ∀ l : Fin 200, Host.gather gather_S41000x16_S4096x200x1_S4096x200x16_2_0_n_n_0_2_116 (V (Proc.devRef .tc main_arg7)) (res_main_call13_v5 V) (ix3 b l d) = (argsOf V).tag (ix2 (Args.up (by decide) (Args.row ((argsOf V).multi (ix3 3 b l)))) d) := fun l =>
    gather_planes _ _ _ b l d (Args.up (by decide) _) (by rw [index13 V ha]; exact row_val _ (ha.multi 3 b l)) (by show (Args.row _).val < _; omega)
  have htest := test_planes (res_main_call13_v5 V) 40999 (by decide) (fun b l => by rw [index13 V ha]; have := ha.multi 3 b l; omega)
  obtain ⟨M, hM⟩ := weights V ha b
  set w : Fin 200 → ℝ := fun l => (argsOf V).A ((argsOf V).rows b 3 l) with hw
  have hpos : 0 < ∑ l, Real.exp (w l - M) := Finset.sum_pos (fun l _ => Real.exp_pos _) ⟨0, Finset.mem_univ _⟩
  have hterm : ∀ l : Fin 200, @Eq EReal (Scalar.select (IntOp.cmpi .sgt ((argsOf V).mask (ix2 3 b)) (BitVec.ofNat 32 l.val)) (@HMul.hMul EReal EReal EReal _ (Host.gather gather_S41000x16_S4096x200x1_S4096x200x16_2_0_n_n_0_2_116 (V (Proc.devRef .tc main_arg7)) (res_main_call13_v5 V) (ix3 b l d))
      (Ideal.div (res_main_v98 V (ix3 b l 0)) (@Finset.sum (Fin 200) EReal _ Finset.univ fun l => res_main_v98 V (ix3 b l 0)))) (0 : EReal)) (((argsOf V).T ((argsOf V).rows b 3 l) d * (Real.exp (w l - M) / ∑ l, Real.exp (w l - M)) : ℝ) : EReal) := fun l => by
    refine counted (argsOf V) 3 b l _ (fun g => (argsOf V).T g d * (Real.exp (w l - M) / ∑ l, Real.exp (w l - M))) ?_ (by rw [Args.T_zero 31 (by decide), zero_mul])
    have h1 : @Eq EReal (@Finset.sum (Fin 200) EReal _ Finset.univ fun l => res_main_v98 V (ix3 b l 0)) ((∑ l, Real.exp (w l - M) : ℝ) : EReal) := sum_reals _ _ hM
    have h2 := (hrow l).trans (ha.tag_eq ⟨(Args.row ((argsOf V).multi (ix3 3 b l))).val, by omega⟩ (Args.row _).isLt d)
    rw [EReal.coe_mul, ← div_reals _ _ hpos.ne', ← h1]
    exact congrArg₂ (fun x y : EReal => x * y) h2 (congrArg (fun z => Ideal.div z _) (hM l))
  rw [res_main_v105, htest]
  pointwise
  refine (sum_reals _ _ hterm).trans (congrArg _ ?_)
  show (∑ l, (argsOf V).T ((argsOf V).rows b 3 l) d * (Real.exp (w l - M) / ∑ l, Real.exp (w l - M))) = attPool (argsOf V).T (argsOf V).A ((argsOf V).rows b 3) d
  have he : ∀ l, Real.exp (w l - M) = Real.exp (w l) * Real.exp (-M) := fun l => by rw [← Real.exp_add, sub_eq_add_neg]
  simp only [he, ← Finset.sum_mul]
  unfold attPool
  rw [Finset.sum_div]
  refine Finset.sum_congr rfl fun l _ => ?_
  rw [mul_div_mul_right _ _ (Real.exp_ne_zero _), mul_div_assoc]

end Cert.ReferenceIdeal.Value

end
-- ==== Proof.RefValue.lean ====
/- The reference's result at an index: the specification's value of its arguments. -/
module

public import proofs.«01_k».proof.Proof.RefRows

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Cert.Spec

/-! ### The normalisation of a field of real numbers -/

section

variable (p : FVec Ideal S4096x16 .f32) (P : Fin 4096 → Fin 16 → ℝ) (hp : ∀ b d, p (ix2 b d) = (P b d : EReal))
include hp

/-- The mean over the batch. -/
theorem mean_of (d : Fin 16) :
    Host.divf (Host.reduceAdd p (constant S_ .f32 0x00000000#32) reducesTo_S4096x16_S16_d0 h_S_) (broadcastInDim S16 ![] bcast_S_S16 (constant S_ .f32 0x45800000#32)) (ix1 d) = (mean (fun b => P b d) : EReal) := by
  pointwise
  rw [ofBits_4096, sum_reals _ _ fun b => hp b d, div_reals _ _ (by norm_num)]
  rfl

variable (μ : FVec Ideal S16 .f32) (hμ : ∀ d, μ (ix1 d) = (mean (fun b => P b d) : EReal))
include hμ

/-- The distance from the mean. -/
theorem diff_of (b : Fin 4096) (d : Fin 16) :
    subf p (broadcastInDim S4096x16 ![0, 1] bcast_S1x16_S4096x16_0_1 (broadcastInDim S1x16 ![1] bcast_S16_S1x16_1 μ)) (ix2 b d) = ((P b d - mean (fun b => P b d) : ℝ) : EReal) := by
  pointwise
  rw [hp, hμ, EReal.coe_sub]

/-- The normalised field. -/
theorem normed_of (q : FVec Ideal S4096x16 .f32) (hq : ∀ b d, q (ix2 b d) = ((P b d - mean (fun b => P b d) : ℝ) : EReal))
    (g t : FVec Ideal S16 .f32) (gam : Fin 16 → ℝ) (hg : ∀ d, g (ix1 d) = (gam d : EReal)) (b : Fin 4096) (d : Fin 16) :
    addf (Host.divf (mulf (broadcastInDim S4096x16 ![0, 1] bcast_S1x16_S4096x16_0_1 (broadcastInDim S1x16 ![1] bcast_S16_S1x16_1 g)) (subf p (broadcastInDim S4096x16 ![0, 1] bcast_S1x16_S4096x16_0_1 (broadcastInDim S1x16 ![1] bcast_S16_S1x16_1 μ)))) (broadcastInDim S4096x16 ![0, 1] bcast_S1x16_S4096x16_0_1 (broadcastInDim S1x16 ![1] bcast_S16_S1x16_1 (Host.sqrt (addf (Host.divf (Host.reduceAdd (mulf q q) (constant S_ .f32 0x00000000#32) reducesTo_S4096x16_S16_d0 h_S_) (broadcastInDim S16 ![] bcast_S_S16 (constant S_ .f32 0x45800000#32))) (broadcastInDim S16 ![] bcast_S_S16 (constant S_ .f32 0x3727C5AC#32))))))) (broadcastInDim S4096x16 ![0, 1] bcast_S1x16_S4096x16_0_1 (broadcastInDim S1x16 ![1] bcast_S16_S1x16_1 t)) (ix2 b d)
      = normed (gam d) (t (ix1 d)) (fun b => P b d) b := by
  have hv : 0 < var (fun b => P b d) + eps := add_pos_of_nonneg_of_pos (var_nonneg _) eps_pos
  have hsq : ∀ b, (q (ix2 b d) * q (ix2 b d) : EReal) = (((P b d - mean (fun b => P b d)) * (P b d - mean (fun b => P b d)) : ℝ) : EReal) := fun b => by rw [hq, ← EReal.coe_mul]
  pointwise
  rw [hp, hμ, hg, ofBits_4096, ofBits_eps, sum_reals _ _ hsq, div_reals _ _ (by norm_num), ← EReal.coe_sub, ← EReal.coe_mul, ← EReal.coe_add]
  have hs : Ideal.sqrt (((∑ b, (P b d - mean (fun b => P b d)) * (P b d - mean (fun b => P b d))) / 4096 + eps : ℝ) : EReal) = (Real.sqrt (var (fun b => P b d) + eps) : EReal) := sqrt_pos' hv
  rw [hs, div_reals _ _ (Real.sqrt_pos.2 hv).ne']
  rfl

end

/-! ### The 112 numbers of a column -/

/-- Their concatenation. -/
theorem columns (u m y n0 n1 n2 n3 : FVec Ideal S4096x16 .f32) (b : Fin 4096) (k : Fin 112) :
    concatenate S4096x112 1 [⟨S4096x48, (concatenate S4096x48 1 [⟨S4096x16, u⟩, ⟨S4096x16, m⟩, ⟨S4096x16, y⟩] concatenates_S4096x16_S4096x16_S4096x16_S4096x48_d1 : FVec Ideal S4096x48 .f32)⟩, ⟨S4096x16, n0⟩, ⟨S4096x16, n1⟩, ⟨S4096x16, n2⟩, ⟨S4096x16, n3⟩] concatenates_S4096x48_S4096x16_S4096x16_S4096x16_S4096x16_S4096x112_d1 (ix2 b k)
      = if h : k.val < 48 then (if h : k.val < 16 then u (ix2 b ⟨k.val, h⟩) else if h' : k.val - 16 < 16 then m (ix2 b ⟨k.val - 16, h'⟩) else y (ix2 b ⟨k.val - 16 - 16, by omega⟩))
        else (![n0, n1, n2, n3] ⟨(k.val - 48) / 16, by omega⟩) (ix2 b ⟨(k.val - 48) % 16, by omega⟩) := by
  pointwise
  split
  · rfl
  have place : ∀ (i : Fin 4) (d : Fin 16), k.val = 48 + 16 * i.val + d.val → (![n0, n1, n2, n3] i) (ix2 b d) = (![n0, n1, n2, n3] ⟨(k.val - 48) / 16, by omega⟩) (ix2 b ⟨(k.val - 48) % 16, by omega⟩) := fun i d e => by
    have hi : (⟨(k.val - 48) / 16, by omega⟩ : Fin 4) = i := Fin.ext (by show (k.val - 48) / 16 = i.val; omega)
    have hd : (⟨(k.val - 48) % 16, by omega⟩ : Fin 16) = d := Fin.ext (by show (k.val - 48) % 16 = d.val; omega)
    rw [hi, hd]
  split
  · exact place 0 ⟨k.val - 48, by omega⟩ (by show k.val = 48 + 16 * 0 + (k.val - 48); omega)
  split
  · exact place 1 ⟨k.val - 48 - 16, by omega⟩ (by show k.val = 48 + 16 * 1 + (k.val - 48 - 16); omega)
  split
  · exact place 2 ⟨k.val - 48 - 16 - 16, by omega⟩ (by show k.val = 48 + 16 * 2 + (k.val - 48 - 16 - 16); omega)
  · exact place 3 ⟨k.val - 48 - 16 - 16 - 16, by omega⟩ (by show k.val = 48 + 16 * 3 + (k.val - 48 - 16 - 16 - 16); omega)

/-- One of four fields, each known. -/
theorem four (b : Fin 4096) (G : Fin 4 → Fin 16 → EReal) {n0 n1 n2 n3 : FVec Ideal S4096x16 .f32} (h0 : ∀ d, n0 (ix2 b d) = G 0 d) (h1 : ∀ d, n1 (ix2 b d) = G 1 d) (h2 : ∀ d, n2 (ix2 b d) = G 2 d) (h3 : ∀ d, n3 (ix2 b d) = G 3 d)
    (i : Fin 4) (d : Fin 16) : (![n0, n1, n2, n3] i) (ix2 b d) = G i d := by
  fin_cases i
  exacts [h0 d, h1 d, h2 d, h3 d]

/-- A row of a table of four rows, as a vector. -/
theorem slice_row (v : FVec Ideal S4x16 .f32) (d : Fin 16) :
    shapeCast S16 (extractStridedSlice S1x16 ![0, 0] v slices_S4x16_S1x16_0_0) shapeCasts_S1x16_S16 (ix1 d) = v (ix2 0 d)
    ∧ shapeCast S16 (extractStridedSlice S1x16 ![1, 0] v slices_S4x16_S1x16_1_0) shapeCasts_S1x16_S16 (ix1 d) = v (ix2 1 d)
    ∧ shapeCast S16 (extractStridedSlice S1x16 ![2, 0] v slices_S4x16_S1x16_2_0) shapeCasts_S1x16_S16 (ix1 d) = v (ix2 2 d)
    ∧ shapeCast S16 (extractStridedSlice S1x16 ![3, 0] v slices_S4x16_S1x16_3_0) shapeCasts_S1x16_S16 (ix1 d) = v (ix2 3 d) := by
  refine ⟨?_, ?_, ?_, ?_⟩ <;> pointwise

variable (V : Valuation τ sig (Elt Ideal)) (ha : (argsOf V).Good)
include ha

/-- A field normalised with its rows of `gamma` and `beta`. -/
theorem field (i : Fin 4) (p : FVec Ideal S4096x16 .f32) (hp : ∀ b d, p (ix2 b d) = ((argsOf V).P i b d : EReal)) (μ : FVec Ideal S16 .f32) (hμ : ∀ d, μ (ix1 d) = (mean (fun b => (argsOf V).P i b d) : EReal))
    (g t : FVec Ideal S16 .f32) (hg : ∀ d, g (ix1 d) = (argsOf V).gamma (ix2 i d)) (ht : ∀ d, t (ix1 d) = (argsOf V).beta (ix2 i d)) (b : Fin 4096) (d : Fin 16) :
    addf (Host.divf (mulf (broadcastInDim S4096x16 ![0, 1] bcast_S1x16_S4096x16_0_1 (broadcastInDim S1x16 ![1] bcast_S16_S1x16_1 g)) (subf p (broadcastInDim S4096x16 ![0, 1] bcast_S1x16_S4096x16_0_1 (broadcastInDim S1x16 ![1] bcast_S16_S1x16_1 μ)))) (broadcastInDim S4096x16 ![0, 1] bcast_S1x16_S4096x16_0_1 (broadcastInDim S1x16 ![1] bcast_S16_S1x16_1 (Host.sqrt (addf (Host.divf (Host.reduceAdd (mulf (subf p (broadcastInDim S4096x16 ![0, 1] bcast_S1x16_S4096x16_0_1 (broadcastInDim S1x16 ![1] bcast_S16_S1x16_1 μ))) (subf p (broadcastInDim S4096x16 ![0, 1] bcast_S1x16_S4096x16_0_1 (broadcastInDim S1x16 ![1] bcast_S16_S1x16_1 μ)))) (constant S_ .f32 0x00000000#32) reducesTo_S4096x16_S16_d0 h_S_) (broadcastInDim S16 ![] bcast_S_S16 (constant S_ .f32 0x45800000#32))) (broadcastInDim S16 ![] bcast_S_S16 (constant S_ .f32 0x3727C5AC#32))))))) (broadcastInDim S4096x16 ![0, 1] bcast_S1x16_S4096x16_0_1 (broadcastInDim S1x16 ![1] bcast_S16_S1x16_1 t)) (ix2 b d)
      = normed ((argsOf V).gamma (ix2 i d)).toReal ((argsOf V).beta (ix2 i d)) (fun b => (argsOf V).P i b d) b := by
  rw [← ht d]
  exact normed_of p _ hp μ hμ _ (diff_of p _ hp μ hμ) g t (fun d => ((argsOf V).gamma (ix2 i d)).toReal) (fun d => (hg d).trans (ha.gamma_eq i d)) b d

/-- The rows of the users, -/
theorem user_row (b : Fin 4096) (d : Fin 16) : (select (broadcastInDim S4096x16 ![0] bcast_S4096_S4096x16_0 (Host.reduce IntOp.andi (andi (cmpi .sge (res_main_call0_v5 V) (broadcastInDim S4096x1 ![] bcast_S_S4096x1 (constantI S_ 32 0#32))) (cmpi .sle (res_main_call0_v5 V) (broadcastInDim S4096x1 ![0, 1] bcast_S1x1_S4096x1_0_1 (broadcastInDim S1x1 ![1] bcast_S1_S1x1_1 (constantI S1 32 138999#32))))) (constantI S_ 1 1#1) reducesTo_S4096x1_S4096_d1 h_S_)) (Host.gather gather_S139000x16_S4096x1_S4096x16_1_0_n_n_0_1_116 (V (Proc.devRef .tc main_arg3)) (res_main_call0_v5 V)) (broadcastInDim S4096x16 ![] bcast_S_S4096x16 (constant S_ .f32 0x7FC00000#32) : FVec Ideal S4096x16 .f32)) (ix2 b d)
    = (argsOf V).user (ix2 (Args.up (by decide) (Args.row ((argsOf V).single (ix2 0 b)))) d) := by
  have htest := test_column (res_main_call0_v5 V) 138999 (by decide) (fun b => by rw [index0 V ha]; have := ha.single 0 b; omega)
  rw [htest]
  pointwise
  exact gather_rows _ _ _ b d (Args.up (by decide) _) (by rw [index0 V ha]; exact row_val _ (ha.single 0 b)) (by show (Args.row _).val < _; omega)

/-- of the movies, -/
theorem movie_row (b : Fin 4096) (d : Fin 16) : (select (broadcastInDim S4096x16 ![0] bcast_S4096_S4096x16_0 (Host.reduce IntOp.andi (andi (cmpi .sge (res_main_call1_v5 V) (broadcastInDim S4096x1 ![] bcast_S_S4096x1 (constantI S_ 32 0#32))) (cmpi .sle (res_main_call1_v5 V) (broadcastInDim S4096x1 ![0, 1] bcast_S1x1_S4096x1_0_1 (broadcastInDim S1x1 ![1] bcast_S1_S1x1_1 (constantI S1 32 131999#32))))) (constantI S_ 1 1#1) reducesTo_S4096x1_S4096_d1 h_S_)) (Host.gather gather_S132000x16_S4096x1_S4096x16_1_0_n_n_0_1_116 (V (Proc.devRef .tc main_arg4)) (res_main_call1_v5 V)) (broadcastInDim S4096x16 ![] bcast_S_S4096x16 (constant S_ .f32 0x7FC00000#32) : FVec Ideal S4096x16 .f32)) (ix2 b d)
    = (argsOf V).movie (ix2 (Args.up (by decide) (Args.row ((argsOf V).single (ix2 1 b)))) d) := by
  have htest := test_column (res_main_call1_v5 V) 131999 (by decide) (fun b => by rw [index1 V ha]; have := ha.single 1 b; omega)
  rw [htest]
  pointwise
  exact gather_rows _ _ _ b d (Args.up (by decide) _) (by rw [index1 V ha]; exact row_val _ (ha.single 1 b)) (by show (Args.row _).val < _; omega)

/-- and of the years. -/
theorem year_row (b : Fin 4096) (d : Fin 16) : (select (broadcastInDim S4096x16 ![0] bcast_S4096_S4096x16_0 (Host.reduce IntOp.andi (andi (cmpi .sge (res_main_call2_v5 V) (broadcastInDim S4096x1 ![] bcast_S_S4096x1 (constantI S_ 32 0#32))) (cmpi .sle (res_main_call2_v5 V) (broadcastInDim S4096x1 ![0, 1] bcast_S1x1_S4096x1_0_1 (broadcastInDim S1x1 ![1] bcast_S1_S1x1_1 (constantI S1 32 149#32))))) (constantI S_ 1 1#1) reducesTo_S4096x1_S4096_d1 h_S_)) (Host.gather gather_S150x16_S4096x1_S4096x16_1_0_n_n_0_1_116 (V (Proc.devRef .tc main_arg5)) (res_main_call2_v5 V)) (broadcastInDim S4096x16 ![] bcast_S_S4096x16 (constant S_ .f32 0x7FC00000#32) : FVec Ideal S4096x16 .f32)) (ix2 b d)
    = (argsOf V).year (ix2 (Args.up (by decide) (Args.row ((argsOf V).single (ix2 2 b)))) d) := by
  have htest := test_column (res_main_call2_v5 V) 149 (by decide) (fun b => by rw [index2 V ha]; have := ha.single 2 b; omega)
  rw [htest]
  pointwise
  exact gather_rows _ _ _ b d (Args.up (by decide) _) (by rw [index2 V ha]; exact row_val _ (ha.single 2 b)) (by show (Args.row _).val < _; omega)

/-- The first field's mean, -/
theorem mean0 (d : Fin 16) : res_main_v108 V (ix1 d) = (mean (fun b => (argsOf V).P 0 b d) : EReal) := mean_of _ _ (p0 V ha) d
/-- the second's, -/
theorem mean1 (d : Fin 16) : res_main_v137 V (ix1 d) = (mean (fun b => (argsOf V).P 1 b d) : EReal) := mean_of _ _ (p1 V ha) d
/-- the third's, -/
theorem mean2 (d : Fin 16) : res_main_v166 V (ix1 d) = (mean (fun b => (argsOf V).P 2 b d) : EReal) := mean_of _ _ (p2 V ha) d
/-- the fourth's. -/
theorem mean3 (d : Fin 16) : res_main_v195 V (ix1 d) = (mean (fun b => (argsOf V).P 3 b d) : EReal) := mean_of _ _ (p3 V ha) d

/-- The 112 numbers of a column. -/
theorem column (b : Fin 4096) (k : Fin 112) : res_main_v222 V (ix2 b k) = (argsOf V).x b k := by
  unfold res_main_v222
  refine (columns _ _ _ _ _ _ _ b k).trans ?_
  show _ = dite _ _ _
  split
  · next h =>
    show _ = dite _ _ _
    split
    · exact user_row V ha b _
    · show _ = dite _ _ _
      split
      · exact movie_row V ha b _
      · exact year_row V ha b _
  · next h =>
    refine four b (fun i d => normed ((argsOf V).gamma (ix2 i d)).toReal ((argsOf V).beta (ix2 i d)) (fun b => (argsOf V).P i b d) b) ?_ ?_ ?_ ?_ _ _
    · exact field V ha 0 _ (p0 V ha) _ (mean0 V ha) _ _ (fun d => (slice_row _ d).1) (fun d => (slice_row _ d).1) b
    · exact field V ha 1 _ (p1 V ha) _ (mean1 V ha) _ _ (fun d => (slice_row _ d).2.1) (fun d => (slice_row _ d).2.1) b
    · exact field V ha 2 _ (p2 V ha) _ (mean2 V ha) _ _ (fun d => (slice_row _ d).2.2.1) (fun d => (slice_row _ d).2.2.1) b
    · exact field V ha 3 _ (p3 V ha) _ (mean3 V ha) _ _ (fun d => (slice_row _ d).2.2.2) (fun d => (slice_row _ d).2.2.2) b

omit ha in
/-- The three layers of a batch of columns. -/
theorem head (X : FVec Ideal S4096x112 .f32) (w1 : FVec Ideal S112x64 .f32) (b1 : FVec Ideal S64 .f32) (w2 : FVec Ideal S64x32 .f32) (b2 : FVec Ideal S32 .f32) (w3 : FVec Ideal S32x1 .f32) (b3 : FVec Ideal S1 .f32) (b : Fin 4096) :
    shapeCast S4096 (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x32_S32x1_S4096x1_1_0_0_1_n_n none (maximumf (addf (Host.dotGeneral dot_S4096x64_S64x32_S4096x32_1_0_0_1_n_n none (maximumf (addf (Host.dotGeneral dot_S4096x112_S112x64_S4096x64_1_0_0_1_n_n none X w1) (broadcastInDim S4096x64 ![0, 1] bcast_S1x64_S4096x64_0_1 (broadcastInDim S1x64 ![1] bcast_S64_S1x64_1 b1))) (broadcastInDim S4096x64 ![] bcast_S_S4096x64 (constant S_ .f32 0x00000000#32))) w2) (broadcastInDim S4096x32 ![0, 1] bcast_S1x32_S4096x32_0_1 (broadcastInDim S1x32 ![1] bcast_S32_S1x32_1 b2))) (broadcastInDim S4096x32 ![] bcast_S_S4096x32 (constant S_ .f32 0x00000000#32))) w3) (broadcastInDim S4096x1 ![0, 1] bcast_S1x1_S4096x1_0_1 (broadcastInDim S1x1 ![1] bcast_S1_S1x1_1 b3))))))) shapeCasts_S4096x1_S4096 (ix1 b)
      = layers (fun j k => w1 (ix2 k j)) (fun j => b1 (ix1 j)) (fun i j => w2 (ix2 j i)) (fun i => b2 (ix1 i)) (fun i => w3 (ix2 i 0)) (b3 (ix1 0)) (fun k => X (ix2 b k)) := by
  pointwise
  simp only [layers, Ideal.logistic, mul_comm]

omit V ha in
/-- The reference runs, and on every device its result is the specification's value of the arguments. -/
theorem run_value (m : (ℓ : Loc nD τ sig) → Buf (Elt Ideal) ℓ) (ρ : Dev nD → PrngReg) (ha : ∀ c, (argsOf (launchContents m c)).Good) :
    θ_run defs (onTc (τ := τ) (main (F := Ideal))) ⟨m, fun _ => 0, ρ⟩ (fun r => ∀ c : Dev nD,
      @Eq (S4096.Idx → EReal) (r.2.mem ((c.tc : Thread nD τ).loc main_v243)) (fun y => (argsOf (launchContents m c)).out (y 0))) := by
  refine (θ_run defs _ _).mono (fun r h c => (h c).1.trans (funext fun y => ?_)) (run m ρ)
  obtain ⟨b, rfl⟩ : ∃ b : Fin 4096, y = ix1 b := ⟨y 0, funext fun i => by fin_cases i; rfl⟩
  refine (head _ _ _ _ _ _ _ b).trans ?_
  exact congrArg (layers _ _ _ _ _ _) (funext fun k => column _ (ha c) b k)

end Cert.ReferenceIdeal.Value

end
-- ==== Proof.PreFacts.lean ====
/- The shape relations the precondition states, each decided. -/
module

public import proofs.«01_k».proof.Pre_drawn_and_finite

@[expose] public section

namespace Cert.Pre_drawn_and_finite

open Idealize.ShloMosaic

/-- The shape relations of the precondition hold. -/
instance facts : Facts where
  reducesTo_S30x16_S30_d1 := by decide
  h_S_ := by decide
  bcast_S_S3x4096 := by decide
  bcast_S_S4x4096x200 := by decide
  slices_S132000x16_S30x16_0_0 := by decide
  bcast_S_S30x16 := by decide
  slices_S41000x16_S30x16_0_0 := by decide
  slices_S41000x1_S30x1_0_0 := by decide
  bcast_S_S30x1 := by decide
  bcast_S_S4x16 := by decide
  bcast_S30_S30x1x1_0 := by decide
  bcast_S30_S1x30x1_1 := by decide
  bcast_S30x1x1_S30x30x1_0_1_2 := by decide
  bcast_S1x30x1_S30x30x1_0_1_2 := by decide
  bcast_S30x16_S30x1x16_0_2 := by decide
  bcast_S30x16_S1x30x16_1_2 := by decide
  bcast_S30x1x16_S30x30x16_0_1_2 := by decide
  bcast_S1x30x16_S30x30x16_0_1_2 := by decide
  bcast_S30x30x1_S30x30x16_0_1_2 := by decide

end Cert.Pre_drawn_and_finite

end
-- ==== Proof.PreRead.lean ====
/- What the precondition says of the arguments, read from the printed predicate. -/
module

public import proofs.«01_k».proof.Proof.PreFacts
public import proofs.«01_k».proof.Proof.Args
public import Idealize.ShloMosaic.Lib.StableHlo.Predicate

@[expose] public section

noncomputable section

namespace Cert.Pre_drawn_and_finite

open Idealize.ShloMosaic Idealize.ShloMosaic.StableHlo
open Cert.Spec Facts

/-- The bit pattern of infinity. -/
theorem ofBits_inf : Ideal.ofBits .f32 0x7F800000#32 = ⊤ := by
  simp [Ideal.ofBits, Ideal.ieee]

/-- A number whose absolute value is less than infinity is real. -/
theorem real_of_abs {x : EReal} (h : BitVec.ofBool (decide (max x (-x) < Ideal.ofBits .f32 0x7F800000#32)) = 1#1) : ∃ r : ℝ, x = r := by
  have h' : max x (-x) < ⊤ := by rw [← ofBits_inf]; exact of_decide_eq_true ((Predicate.ofBool_eq_one_iff _).1 h)
  induction x with
  | bot => exact absurd h' (by simp)
  | top => exact absurd h' (by simp)
  | coe r => exact ⟨r, rfl⟩

/-- A word at least 0 and below 30, as signed numbers, is below 30. -/
theorem word_of_range {w : BitVec 32} (h : IntOp.andi (IntOp.cmpi .sge w 0#32) (IntOp.cmpi .slt w 30#32) = 1#1) : w.toNat < 30 := by
  have both : ∀ a b : BitVec 1, a &&& b = 1#1 → a = 1#1 ∧ b = 1#1 := by decide
  obtain ⟨h0, h1⟩ := both _ _ h
  have h0' : (0#32).toInt ≤ w.toInt := of_decide_eq_true ((Predicate.ofBool_eq_one_iff _).1 h0)
  have h1' : w.toInt < (30#32).toInt := of_decide_eq_true ((Predicate.ofBool_eq_one_iff _).1 h1)
  have e0 : (0#32).toInt = 0 := by decide
  have e1 : (30#32).toInt = 30 := by decide
  have := BitVec.toInt_eq_toNat_cond w
  have := w.isLt
  split at * <;> omega

/-- Two numbers that differ, or a fact. -/
theorem fact_of_or {x y u v : EReal} (h : IntOp.ori (BitVec.ofBool (decide (x ≠ y))) (BitVec.ofBool (decide (u = v))) = 1#1) (e : x = y) : u = v := by
  by_contra n
  simp [IntOp.ori, e, n] at h

/-- The arguments the precondition holds of. -/
theorem good (a : Args) (x8 : FVec Ideal S132000x1 .f32) (x10 : FVec Ideal S30x1 .f32)
    (h : (fn (F := Ideal) a.single a.multi a.mask a.user a.movie a.year a.genre a.tag x8 a.attTag x10 a.gamma a.beta a.W1 a.b1 a.W2 a.b2 a.W3 a.b3).1 = (fun _ => 1#1)
      ∧ (fn (F := Ideal) a.single a.multi a.mask a.user a.movie a.year a.genre a.tag x8 a.attTag x10 a.gamma a.beta a.W1 a.b1 a.W2 a.b2 a.W3 a.b3).2.1 = (fun _ => 1#1)
      ∧ (fn (F := Ideal) a.single a.multi a.mask a.user a.movie a.year a.genre a.tag x8 a.attTag x10 a.gamma a.beta a.W1 a.b1 a.W2 a.b2 a.W3 a.b3).2.2.1 = (fun _ => 1#1)
      ∧ (fn (F := Ideal) a.single a.multi a.mask a.user a.movie a.year a.genre a.tag x8 a.attTag x10 a.gamma a.beta a.W1 a.b1 a.W2 a.b2 a.W3 a.b3).2.2.2.1 = (fun _ => 1#1)
      ∧ (fn (F := Ideal) a.single a.multi a.mask a.user a.movie a.year a.genre a.tag x8 a.attTag x10 a.gamma a.beta a.W1 a.b1 a.W2 a.b2 a.W3 a.b3).2.2.2.2.1 = (fun _ => 1#1)
      ∧ (fn (F := Ideal) a.single a.multi a.mask a.user a.movie a.year a.genre a.tag x8 a.attTag x10 a.gamma a.beta a.W1 a.b1 a.W2 a.b2 a.W3 a.b3).2.2.2.2.2.1 = (fun _ => 1#1)
      ∧ (fn (F := Ideal) a.single a.multi a.mask a.user a.movie a.year a.genre a.tag x8 a.attTag x10 a.gamma a.beta a.W1 a.b1 a.W2 a.b2 a.W3 a.b3).2.2.2.2.2.2.1 = (fun _ => 1#1)
      ∧ (fn (F := Ideal) a.single a.multi a.mask a.user a.movie a.year a.genre a.tag x8 a.attTag x10 a.gamma a.beta a.W1 a.b1 a.W2 a.b2 a.W3 a.b3).2.2.2.2.2.2.2 = (fun _ => 1#1)) : a.Good := by
  obtain ⟨h0, h1, h2, h3, h4, h5, h6, h7⟩ := h
  simp only [fn, fn_part1, fn_part2] at h0 h1 h2 h3 h4 h5 h6 h7
  refine ⟨fun i b => word_of_range (congrFun h0 (ix2 i b)), fun i b l => word_of_range (congrFun h1 (ix3 i b l)), fun g d => ?_, fun g d => real_of_abs (congrFun h3 (ix2 g d)), fun g d => ?_, fun g => ?_, fun i d => real_of_abs (congrFun h6 (ix2 i d)), fun g k e d => ?_⟩
  · have h := congrFun h2 (ix2 g d)
    pointwise at h
    exact real_of_abs h
  · have h := congrFun h4 (ix2 g d)
    pointwise at h
    exact real_of_abs h
  · have h := congrFun h5 (ix2 g 0)
    pointwise at h
    exact real_of_abs h
  · have h := congrFun h7 (ix3 g k d)
    pointwise at h
    exact fact_of_or h e

end Cert.Pre_drawn_and_finite

end
-- ==== Proof.lean ====
/- The certificate's claim, put together: the frames of the three programs, the kept meaning of the named constant, and
   the equation of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.PFrame
public import proofs.«01_k».proof.Proof.KFrame
public import proofs.«01_k».proof.Proof.KValue
public import proofs.«01_k».proof.Proof.RefValue
public import proofs.«01_k».proof.Proof.PreRead
public import Idealize.ShloMosaic.Adequacy
public import Idealize.ShloMosaic.Init

@[expose] public section

noncomputable section

namespace Cert.Proof

open Idealize.ShloMosaic Idealize.SL.Sem

/-- The printed kernel runs, its arguments unchanged. -/
theorem frame_kernel : Cert.quiescent_Kernel (hKernel := Cert.Kernel.Gen.facts) := fun m g _ => Cert.Kernel.Body.frame m g

/-- So does the kernel over the extended reals, -/
theorem frame_ideal : Cert.quiescent_KernelIdeal (hKernelIdeal := Cert.KernelIdeal.Gen.facts) := fun m g _ => Cert.KernelIdeal.Body.frame m g

/-- under the precondition too; -/
theorem frame_ideal_pre : Cert.quiescent_KernelIdeal_pre_drawn_and_finite (hKernelIdeal := Cert.KernelIdeal.Gen.facts) (hPre_drawn_and_finite := Cert.Pre_drawn_and_finite.facts) := fun m g _ => Cert.KernelIdeal.Body.frame m g

/-- and the reference, -/
theorem frame_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- under the precondition too. -/
theorem frame_reference_pre : Cert.quiescent_ReferenceIdeal_pre_drawn_and_finite (hReferenceIdeal := Cert.ReferenceIdeal.Gen.facts) (hPre_drawn_and_finite := Cert.Pre_drawn_and_finite.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The named constant stands for `1/200`. -/
theorem kept : Cert.preserves_Kernel_KernelIdeal :=
  IdealRules.named_const.statement Cert.KernelIdeal.κ "inv_l" .f32 0x3BA3D70A#32 ((1 / 200 : ℝ) : EReal) rfl

/-- The kernel and the reference compute one value, the specification's, of the same arguments. -/
theorem algebraic : Cert.algebraic_KernelIdeal_ReferenceIdeal_pre_drawn_and_finite (hKernelIdeal := Cert.KernelIdeal.Gen.facts)
    (hReferenceIdeal := Cert.ReferenceIdeal.Gen.facts) (hPre_drawn_and_finite := Cert.Pre_drawn_and_finite.facts) := by
  intro m g m' g' hpre hargs
  have good : ∀ c, (Cert.KernelIdeal.Body.argsOf m c).Good := fun c =>
    Cert.Pre_drawn_and_finite.good (Cert.KernelIdeal.Body.argsOf m c) _ _ (hpre c)
  have same : ∀ c, Cert.ReferenceIdeal.Value.argsOf (StableHlo.launchContents m' c) = Cert.KernelIdeal.Body.argsOf m c := fun c => by
    obtain ⟨h0, h1, h2, h3, h4, h5, h6, h7, -, h9, -, h11, h12, h13, h14, h15, h16, h17, h18⟩ := hargs c
    exact (Cert.Spec.Args.mk.injEq ..).mpr ⟨h0, h1, h2, h3, h4, h5, h6, h7, h9, h11, h12, h13, h14, h15, h16, h17, h18⟩
  refine ⟨fun c => ((fun y => (Cert.KernelIdeal.Body.argsOf m c).out (y 0)) : Cert.KernelIdeal.S4096.Idx → EReal), ?_, ?_⟩
  · exact (θ_run Cert.KernelIdeal.defs _ _).mono (fun r h c => ⟨h.1 c, h.2 c⟩)
      (θ_run_and (Cert.KernelIdeal.Body.run_value m g good) (Cert.KernelIdeal.Body.unchanged m g))
  · refine (θ_run Cert.ReferenceIdeal.defs _ _).mono (fun r h c => ⟨?_, (h.2 c).2⟩)
      (θ_run_and (Cert.ReferenceIdeal.Value.run_value m' g' fun c => by rw [same]; exact good c) (Cert.ReferenceIdeal.Value.run (F := Ideal) m' g'))
    have := h.1 c
    rw [same] at this
    exact this

theorem claim : Cert.Claim :=
  ⟨Cert.Kernel.Gen.facts, Cert.KernelIdeal.Gen.facts, Cert.ReferenceIdeal.Gen.facts, Cert.Pre_drawn_and_finite.facts,
    frame_kernel, frame_ideal, frame_ideal_pre, frame_reference, frame_reference_pre, kept, algebraic⟩

end Cert.Proof

end
